-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_plan4 : Cert.Pre_plan4.Facts] (m : (ℓ : Loc Cert.Kernel4.nD Cert.Kernel4.τ Cert.Kernel4.sig) → Buf (Elt Bits) ℓ) : Prop :=
  ∀ c : Dev Cert.Kernel4.nD,
    (Cert.Pre_plan4.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_plan4 : Cert.Pre_plan4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_plan4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_plan4 [hPre_plan4 : Cert.Pre_plan4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_plan4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 [hPre_plan5 : Cert.Pre_plan5.Facts] (m : (ℓ : Loc Cert.Kernel5.nD Cert.Kernel5.τ Cert.Kernel5.sig) → Buf (Elt Bits) ℓ) : Prop :=
  ∀ c : Dev Cert.Kernel5.nD,
    (Cert.Pre_plan5.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4))) = (fun _ => 1#1)

def Pre_Kernel5Ideal [hPre_plan5 : Cert.Pre_plan5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_plan5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_plan5 [hPre_plan5 : Cert.Pre_plan5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_plan5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] [hPre_plan4 : Cert.Pre_plan4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_plan4 : Cert.Pre_plan4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_plan4 [hReference4Ideal : Cert.Reference4Ideal.Facts] [hPre_plan4 : Cert.Pre_plan4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_plan4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] [hPre_plan5 : Cert.Pre_plan5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] [hPre_plan5 : Cert.Pre_plan5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_plan5 [hReference5Ideal : Cert.Reference5Ideal.Facts] [hPre_plan5 : Cert.Pre_plan5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_plan5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] [hPre_plan4 : Cert.Pre_plan4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] [hPre_plan5 : Cert.Pre_plan5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_plan4 : Cert.Pre_plan4.Facts) (hPre_plan5 : Cert.Pre_plan5.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_plan4 := hPre_plan4)
    ∧ quiescent_Kernel4Ideal (hKernel4Ideal := hKernel4Ideal) (hPre_plan4 := hPre_plan4)
    ∧ quiescent_Reference4Ideal (hReference4Ideal := hReference4Ideal)
    ∧ quiescent_Reference4Ideal_pre_plan4 (hReference4Ideal := hReference4Ideal) (hPre_plan4 := hPre_plan4)
    ∧ quiescent_Kernel5 (hKernel5 := hKernel5) (hPre_plan5 := hPre_plan5)
    ∧ quiescent_Kernel5Ideal (hKernel5Ideal := hKernel5Ideal) (hPre_plan5 := hPre_plan5)
    ∧ quiescent_Reference5Ideal (hReference5Ideal := hReference5Ideal)
    ∧ quiescent_Reference5Ideal_pre_plan5 (hReference5Ideal := hReference5Ideal) (hPre_plan5 := hPre_plan5)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_plan4 := hPre_plan4)
    ∧ preserves_Kernel5_Kernel5Ideal
    ∧ algebraic_Kernel5Ideal_Reference5Ideal (hKernel5Ideal := hKernel5Ideal) (hReference5Ideal := hReference5Ideal) (hPre_plan5 := hPre_plan5)
-- ==== Pre_finite_scores.lean ====
abbrev S2x4096x8x192 : Shape := ⟨4, ![2, 4096, 8, 192]⟩
abbrev S2x4096x8x128 : Shape := ⟨4, ![2, 4096, 8, 128]⟩
abbrev S_ : Shape := ⟨0, ![]⟩

class Facts : Prop where
  bcast_S_S2x4096x8x192 : S_.BroadcastsInDim S2x4096x8x192 (![] : Fin 0 → Fin S2x4096x8x192.rank)
  reducesTo_S2x4096x8x192_S_d0_1_2_3 : S2x4096x8x192.ReducesTo [0, 1, 2, 3] S_
  h_S_ : 0 < S_.numel

variable [Facts]

def fn {F : FTy → Type} [FloatOps F] (main_arg0 : FVec F S2x4096x8x192 .f32) (main_arg1 : FVec F S2x4096x8x192 .f32) (main_arg2 : FVec F S2x4096x8x128 .f32) : IVec S_ 1 :=
  let main_v0 : FVec F S2x4096x8x192 .f32 := Host.absf main_arg0
  let main_cst : FVec F S_ .f32 := constant S_ .f32 0x7F800000#32
  let main_v1 : FVec F S2x4096x8x192 .f32 := broadcastInDim S2x4096x8x192 ![] bcast_S_S2x4096x8x192 main_cst
  let main_v2 : IVec S2x4096x8x192 1 := cmpf .olt main_v0 main_v1
  let main_c : IVec S_ 1 := constantI S_ 1 1#1
  let main_v3 : IVec S_ 1 := (fun x v => Host.reduce IntOp.andi x v reducesTo_S2x4096x8x192_S_d0_1_2_3 h_S_) main_v2 main_c
  let main_v4 : FVec F S2x4096x8x192 .f32 := Host.absf main_arg1
  let main_cst_0 : FVec F S_ .f32 := constant S_ .f32 0x7F800000#32
  let main_v5 : FVec F S2x4096x8x192 .f32 := broadcastInDim S2x4096x8x192 ![] bcast_S_S2x4096x8x192 main_cst_0
  let main_v6 : IVec S2x4096x8x192 1 := cmpf .olt main_v4 main_v5
  let main_c_1 : IVec S_ 1 := constantI S_ 1 1#1
  let main_v7 : IVec S_ 1 := (fun x v => Host.reduce IntOp.andi x v reducesTo_S2x4096x8x192_S_d0_1_2_3 h_S_) main_v6 main_c_1
  let main_v8 : IVec S_ 1 := andi main_v3 main_v7
  main_v8
-- ==== Pre_plan4.lean ====
abbrev S21 : Shape := ⟨1, ![21]⟩
abbrev S26880x4096 : Shape := ⟨2, ![26880, 4096]⟩
abbrev S8x4096x5504 : Shape := ⟨3, ![8, 4096, 5504]⟩
abbrev S_ : Shape := ⟨0, ![]⟩

class Facts : Prop where
  bcast_S_S21 : S_.BroadcastsInDim S21 (![] : Fin 0 → Fin S21.rank)
  reducesTo_S21_S_d0 : S21.ReducesTo [0] S_
  h_S_ : 0 < S_.numel

variable [Facts]

def fn_part1 {F : FTy → Type} [FloatOps F] (main_arg1 : IVec S21 32) (main_arg2 : IVec S21 32) (main_v0 : IVec S21 32) (main_v13 : IVec S_ 1) (main_v15 : IVec S21 1) (main_c_6 : IVec S_ 32) : IVec S_ 1 :=
  let main_v16 : IVec S21 32 := broadcastInDim S21 ![] bcast_S_S21 main_c_6
  let main_v17 : IVec S21 1 := cmpi .slt main_arg2 main_v16
  let main_v18 : IVec S21 1 := andi main_v15 main_v17
  let main_c_7 : IVec S_ 1 := constantI S_ 1 1#1
  let main_v19 : IVec S_ 1 := (fun x v => Host.reduce IntOp.andi x v reducesTo_S21_S_d0 h_S_) main_v18 main_c_7
  let main_v20 : IVec S_ 1 := andi main_v13 main_v19
  let main_c_8 : IVec S_ 32 := constantI S_ 32 0#32
  let main_v21 : IVec S21 32 := broadcastInDim S21 ![] bcast_S_S21 main_c_8
  let main_v22 : IVec S21 1 := cmpi .eq main_arg1 main_v21
  let main_v23 : IVec S21 1 := cmpi .eq main_arg2 main_v0
  let main_v24 : IVec S21 1 := ori main_v22 main_v23
  let main_c_9 : IVec S_ 1 := constantI S_ 1 1#1
  let main_v25 : IVec S_ 1 := (fun x v => Host.reduce IntOp.andi x v reducesTo_S21_S_d0 h_S_) main_v24 main_c_9
  let main_v26 : IVec S_ 1 := andi main_v20 main_v25
  main_v26

def fn {F : FTy → Type} [FloatOps F] (main_arg0 : IVec S21 32) (main_arg1 : IVec S21 32) (main_arg2 : IVec S21 32) (main_arg3 : FVec F S26880x4096 .bf16) (main_arg4 : FVec F S8x4096x5504 .f32) (main_arg5 : FVec F S8x4096x5504 .f32) : IVec S_ 1 :=
  let main_v0 : IVec S21 32 := iotaInDim S21 32 0
  let main_c : IVec S_ 32 := constantI S_ 32 0#32
  let main_v1 : IVec S21 32 := broadcastInDim S21 ![] bcast_S_S21 main_c
  let main_v2 : IVec S21 1 := cmpi .sge main_arg0 main_v1
  let main_c_0 : IVec S_ 32 := constantI S_ 32 8#32
  let main_v3 : IVec S21 32 := broadcastInDim S21 ![] bcast_S_S21 main_c_0
  let main_v4 : IVec S21 1 := cmpi .slt main_arg0 main_v3
  let main_v5 : IVec S21 1 := andi main_v2 main_v4
  let main_c_1 : IVec S_ 1 := constantI S_ 1 1#1
  let main_v6 : IVec S_ 1 := (fun x v => Host.reduce IntOp.andi x v reducesTo_S21_S_d0 h_S_) main_v5 main_c_1
  let main_c_2 : IVec S_ 32 := constantI S_ 32 0#32
  let main_v7 : IVec S21 32 := broadcastInDim S21 ![] bcast_S_S21 main_c_2
  let main_v8 : IVec S21 1 := cmpi .sge main_arg1 main_v7
  let main_c_3 : IVec S_ 32 := constantI S_ 32 10#32
  let main_v9 : IVec S21 32 := broadcastInDim S21 ![] bcast_S_S21 main_c_3
  let main_v10 : IVec S21 1 := cmpi .sle main_arg1 main_v9
  let main_v11 : IVec S21 1 := andi main_v8 main_v10
  let main_c_4 : IVec S_ 1 := constantI S_ 1 1#1
  let main_v12 : IVec S_ 1 := (fun x v => Host.reduce IntOp.andi x v reducesTo_S21_S_d0 h_S_) main_v11 main_c_4
  let main_v13 : IVec S_ 1 := andi main_v6 main_v12
  let main_c_5 : IVec S_ 32 := constantI S_ 32 0#32
  let main_v14 : IVec S21 32 := broadcastInDim S21 ![] bcast_S_S21 main_c_5
  let main_v15 : IVec S21 1 := cmpi .sge main_arg2 main_v14
  let main_c_6 : IVec S_ 32 := constantI S_ 32 21#32
  fn_part1 (F := F) main_arg1 main_arg2 main_v0 main_v13 main_v15 main_c_6
-- ==== Pre_plan5.lean ====
abbrev S21 : Shape := ⟨1, ![21]⟩
abbrev S26880x5504 : Shape := ⟨2, ![26880, 5504]⟩
abbrev S8x5504x4096 : Shape := ⟨3, ![8, 5504, 4096]⟩
abbrev S_ : Shape := ⟨0, ![]⟩

class Facts : Prop where
  bcast_S_S21 : S_.BroadcastsInDim S21 (![] : Fin 0 → Fin S21.rank)
  reducesTo_S21_S_d0 : S21.ReducesTo [0] S_
  h_S_ : 0 < S_.numel

variable [Facts]

def fn_part1 {F : FTy → Type} [FloatOps F] (main_arg1 : IVec S21 32) (main_arg2 : IVec S21 32) (main_v0 : IVec S21 32) (main_v13 : IVec S_ 1) (main_v15 : IVec S21 1) (main_c_6 : IVec S_ 32) : IVec S_ 1 :=
  let main_v16 : IVec S21 32 := broadcastInDim S21 ![] bcast_S_S21 main_c_6
  let main_v17 : IVec S21 1 := cmpi .slt main_arg2 main_v16
  let main_v18 : IVec S21 1 := andi main_v15 main_v17
  let main_c_7 : IVec S_ 1 := constantI S_ 1 1#1
  let main_v19 : IVec S_ 1 := (fun x v => Host.reduce IntOp.andi x v reducesTo_S21_S_d0 h_S_) main_v18 main_c_7
  let main_v20 : IVec S_ 1 := andi main_v13 main_v19
  let main_c_8 : IVec S_ 32 := constantI S_ 32 0#32
  let main_v21 : IVec S21 32 := broadcastInDim S21 ![] bcast_S_S21 main_c_8
  let main_v22 : IVec S21 1 := cmpi .eq main_arg1 main_v21
  let main_v23 : IVec S21 1 := cmpi .eq main_arg2 main_v0
  let main_v24 : IVec S21 1 := ori main_v22 main_v23
  let main_c_9 : IVec S_ 1 := constantI S_ 1 1#1
  let main_v25 : IVec S_ 1 := (fun x v => Host.reduce IntOp.andi x v reducesTo_S21_S_d0 h_S_) main_v24 main_c_9
  let main_v26 : IVec S_ 1 := andi main_v20 main_v25
  main_v26

def fn {F : FTy → Type} [FloatOps F] (main_arg0 : IVec S21 32) (main_arg1 : IVec S21 32) (main_arg2 : IVec S21 32) (main_arg3 : FVec F S26880x5504 .bf16) (main_arg4 : FVec F S8x5504x4096 .f32) : IVec S_ 1 :=
  let main_v0 : IVec S21 32 := iotaInDim S21 32 0
  let main_c : IVec S_ 32 := constantI S_ 32 0#32
  let main_v1 : IVec S21 32 := broadcastInDim S21 ![] bcast_S_S21 main_c
  let main_v2 : IVec S21 1 := cmpi .sge main_arg0 main_v1
  let main_c_0 : IVec S_ 32 := constantI S_ 32 8#32
  let main_v3 : IVec S21 32 := broadcastInDim S21 ![] bcast_S_S21 main_c_0
  let main_v4 : IVec S21 1 := cmpi .slt main_arg0 main_v3
  let main_v5 : IVec S21 1 := andi main_v2 main_v4
  let main_c_1 : IVec S_ 1 := constantI S_ 1 1#1
  let main_v6 : IVec S_ 1 := (fun x v => Host.reduce IntOp.andi x v reducesTo_S21_S_d0 h_S_) main_v5 main_c_1
  let main_c_2 : IVec S_ 32 := constantI S_ 32 0#32
  let main_v7 : IVec S21 32 := broadcastInDim S21 ![] bcast_S_S21 main_c_2
  let main_v8 : IVec S21 1 := cmpi .sge main_arg1 main_v7
  let main_c_3 : IVec S_ 32 := constantI S_ 32 10#32
  let main_v9 : IVec S21 32 := broadcastInDim S21 ![] bcast_S_S21 main_c_3
  let main_v10 : IVec S21 1 := cmpi .sle main_arg1 main_v9
  let main_v11 : IVec S21 1 := andi main_v8 main_v10
  let main_c_4 : IVec S_ 1 := constantI S_ 1 1#1
  let main_v12 : IVec S_ 1 := (fun x v => Host.reduce IntOp.andi x v reducesTo_S21_S_d0 h_S_) main_v11 main_c_4
  let main_v13 : IVec S_ 1 := andi main_v6 main_v12
  let main_c_5 : IVec S_ 32 := constantI S_ 32 0#32
  let main_v14 : IVec S21 32 := broadcastInDim S21 ![] bcast_S_S21 main_c_5
  let main_v15 : IVec S21 1 := cmpi .sge main_arg2 main_v14
  let main_c_6 : IVec S_ 32 := constantI S_ 32 21#32
  fn_part1 (F := F) main_arg1 main_arg2 main_v0 main_v13 main_v15 main_c_6
-- ==== Kernel.lean ====
abbrev S2x4096x8x192 : Shape := ⟨4, ![2, 4096, 8, 192]⟩
abbrev S2x4096x8x128 : Shape := ⟨4, ![2, 4096, 8, 128]⟩
abbrev S_ : Shape := ⟨0, ![]⟩
abbrev S2x8x4096x192 : Shape := ⟨4, ![2, 8, 4096, 192]⟩
abbrev S2x8x4096x256 : Shape := ⟨4, ![2, 8, 4096, 256]⟩
abbrev S2x8x4096x128 : Shape := ⟨4, ![2, 8, 4096, 128]⟩
abbrev S2x4096x1024 : Shape := ⟨3, ![2, 4096, 1024]⟩
abbrev S1x2x1024x256 : Shape := ⟨4, ![1, 2, 1024, 256]⟩
abbrev S1x2x4096x256 : Shape := ⟨4, ![1, 2, 4096, 256]⟩
abbrev S1x2x4096x128 : Shape := ⟨4, ![1, 2, 4096, 128]⟩
abbrev S1x1024x256 : Shape := ⟨3, ![1, 1024, 256]⟩
abbrev S1024x1 : Shape := ⟨2, ![1024, 1]⟩
abbrev S1024x128 : Shape := ⟨2, ![1024, 128]⟩
abbrev S1x1x1024x256 : Shape := ⟨4, ![1, 1, 1024, 256]⟩
abbrev S1024x256 : Shape := ⟨2, ![1024, 256]⟩
abbrev S1x1x512x256 : Shape := ⟨4, ![1, 1, 512, 256]⟩
abbrev S512x256 : Shape := ⟨2, ![512, 256]⟩
abbrev S1024x512 : Shape := ⟨2, ![1024, 512]⟩
abbrev S1024 : Shape := ⟨1, ![1024]⟩
abbrev S1x1x512x128 : Shape := ⟨4, ![1, 1, 512, 128]⟩
abbrev S512x128 : Shape := ⟨2, ![512, 128]⟩
abbrev S1x1024x128 : Shape := ⟨3, ![1, 1024, 128]⟩

abbrev nBuf : Space → Nat
  | .hbm => 25
  | .vmem => 8
  | .smem => 0
  | _ => 0

abbrev bufTy : (tb : Table) → Fin (tcTables nBuf tb) → BufTy
  | .hbm, ⟨0, _⟩ => ⟨S2x4096x8x192, .f32⟩
  | .hbm, ⟨1, _⟩ => ⟨S2x4096x8x192, .f32⟩
  | .hbm, ⟨2, _⟩ => ⟨S2x4096x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2x8x4096x192, .f32⟩
  | .hbm, ⟨8, _⟩ => ⟨S_, .f32⟩
  | .hbm, ⟨9, _⟩ => ⟨S2x8x4096x192, .f32⟩
  | .hbm, ⟨10, _⟩ => ⟨S2x8x4096x192, .f32⟩
  | .hbm, ⟨11, _⟩ => ⟨S2x8x4096x192, .f32⟩
  | .hbm, ⟨12, _⟩ => ⟨S2x8x4096x192, .f32⟩
  | .hbm, ⟨13, _⟩ => ⟨S2x8x4096x192, .bf16⟩
  | .hbm, ⟨14, _⟩ => ⟨S_, .i32⟩
  | .hbm, ⟨15, _⟩ => ⟨S_, .bf16⟩
  | .hbm, ⟨16, _⟩ => ⟨S2x8x4096x256, .bf16⟩
  | .hbm, ⟨17, _⟩ => ⟨S2x8x4096x192, .f32⟩
  | .hbm, ⟨18, _⟩ => ⟨S2x8x4096x192, .bf16⟩
  | .hbm, ⟨19, _⟩ => ⟨S_, .i32⟩
  | .hbm, ⟨20, _⟩ => ⟨S_, .bf16⟩
  | .hbm, ⟨21, _⟩ => ⟨S2x8x4096x256, .bf16⟩
  | .hbm, ⟨22, _⟩ => ⟨S2x8x4096x128, .f32⟩
  | .hbm, ⟨23, _⟩ => ⟨S2x8x4096x128, .bf16⟩
  | .hbm, ⟨24, _⟩ => ⟨S2x4096x1024, .bf16⟩
  | .local _ .vmem, ⟨0, _⟩ => ⟨S1x2x1024x256, .bf16⟩
  | .local _ .vmem, ⟨1, _⟩ => ⟨S1x2x1024x256, .bf16⟩
  | .local _ .vmem, ⟨2, _⟩ => ⟨S1x2x4096x256, .bf16⟩
  | .local _ .vmem, ⟨3, _⟩ => ⟨S1x2x4096x256, .bf16⟩
  | .local _ .vmem, ⟨4, _⟩ => ⟨S1x2x4096x128, .bf16⟩
  | .local _ .vmem, ⟨5, _⟩ => ⟨S1x2x4096x128, .bf16⟩
  | .local _ .vmem, ⟨6, _⟩ => ⟨S1x1024x256, .bf16⟩
  | .local _ .vmem, ⟨7, _⟩ => ⟨S1x1024x256, .bf16⟩
  | _, _ => ⟨S2x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

@[reducible] def k0_t1_loop (i : grid0.Coords) : Scf.Loop 32 :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_5 : BitVec 32 := 1#32
  ⟨c0_i32, v10, c1_i32_5⟩
def k0_mult1 (i : grid0.Coords) (k0_t1 : Fin (k0_t1_loop i).trips) : BitVec 32 :=
  let c0_i32 : BitVec 32 := 0#32
  let c1_i32_5 : BitVec 32 := 1#32
  let arg7 : BitVec 32 := Scf.iv c0_i32 c1_i32_5 k0_t1
  let c2_i32_78 : BitVec 32 := 2#32
  let v165 : BitVec 32 := Scalar.muli arg7 c2_i32_78
  let c0_i32_79 : BitVec 32 := 0#32
  let v166 : BitVec 32 := Scalar.addi v165 c0_i32_79
  let c512_i32_80 : BitVec 32 := 512#32
  let v167 : BitVec 32 := Scalar.muli v166 c512_i32_80
  v167
def k0_off1 (i : grid0.Coords) (k0_t1 : Fin (k0_t1_loop i).trips) (c0_i32_79 : BitVec 32) : Fin 4 → Nat :=
  let c0_85 : Index := 0#32
  let c0_86 : Index := 0#32
  let c0_i32 : BitVec 32 := 0#32
  let c1_i32_5 : BitVec 32 := 1#32
  let arg7 : BitVec 32 := Scf.iv c0_i32 c1_i32_5 k0_t1
  let c2_i32_78 : BitVec 32 := 2#32
  let v165 : BitVec 32 := Scalar.muli arg7 c2_i32_78
  let v166 : BitVec 32 := Scalar.addi v165 c0_i32_79
  let c512_i32_80 : BitVec 32 := 512#32
  let v167 : BitVec 32 := Scalar.muli v166 c512_i32_80
  let v168 : BitVec 32 := v167
  let v171 : Index := Scalar.indexCast v168
  let c0_87 : Index := 0#32
  ![0, 0, v171.toNat, 0]
def k0_off2 (i : grid0.Coords) (k0_t1 : Fin (k0_t1_loop i).trips) (c0_i32_79 : BitVec 32) : Fin 4 → Nat :=
  let c0_91 : Index := 0#32
  let c0_92 : Index := 0#32
  let c0_i32 : BitVec 32 := 0#32
  let c1_i32_5 : BitVec 32 := 1#32
  let arg7 : BitVec 32 := Scf.iv c0_i32 c1_i32_5 k0_t1
  let c2_i32_78 : BitVec 32 := 2#32
  let v165 : BitVec 32 := Scalar.muli arg7 c2_i32_78
  let v166 : BitVec 32 := Scalar.addi v165 c0_i32_79
  let c512_i32_80 : BitVec 32 := 512#32
  let v167 : BitVec 32 := Scalar.muli v166 c512_i32_80
  let v168 : BitVec 32 := v167
  let v190 : Index := Scalar.indexCast v168
  let c0_93 : Index := 0#32
  ![0, 0, v190.toNat, 0]
def k0_off3 (i : grid0.Coords) (k0_t1 : Fin (k0_t1_loop i).trips) (c0_i32_79 : BitVec 32) : Fin 4 → Nat :=
  let c0_99 : Index := 0#32
  let c1_100 : Index := 1#32
  let c0_i32 : BitVec 32 := 0#32
  let c1_i32_5 : BitVec 32 := 1#32
  let arg7 : BitVec 32 := Scf.iv c0_i32 c1_i32_5 k0_t1
  let c2_i32_78 : BitVec 32 := 2#32
  let v165 : BitVec 32 := Scalar.muli arg7 c2_i32_78
  let v166 : BitVec 32 := Scalar.addi v165 c0_i32_79
  let c512_i32_80 : BitVec 32 := 512#32
  let v167 : BitVec 32 := Scalar.muli v166 c512_i32_80
  let v168 : BitVec 32 := v167
  let v197 : Index := Scalar.indexCast v168
  let c0_101 : Index := 0#32
  ![0, 1, v197.toNat, 0]
def k0_off4 (i : grid0.Coords) (k0_t1 : Fin (k0_t1_loop i).trips) (c0_i32_79 : BitVec 32) : Fin 4 → Nat :=
  let c0_105 : Index := 0#32
  let c1_106 : Index := 1#32
  let c0_i32 : BitVec 32 := 0#32
  let c1_i32_5 : BitVec 32 := 1#32
  let arg7 : BitVec 32 := Scf.iv c0_i32 c1_i32_5 k0_t1
  let c2_i32_78 : BitVec 32 := 2#32
  let v165 : BitVec 32 := Scalar.muli arg7 c2_i32_78
  let v166 : BitVec 32 := Scalar.addi v165 c0_i32_79
  let c512_i32_80 : BitVec 32 := 512#32
  let v167 : BitVec 32 := Scalar.muli v166 c512_i32_80
  let v168 : BitVec 32 := v167
  let v216 : Index := Scalar.indexCast v168
  let c0_107 : Index := 0#32
  ![0, 1, v216.toNat, 0]
def k0_mult2 (i : grid0.Coords) (k0_t1 : Fin (k0_t1_loop i).trips) : BitVec 32 :=
  let c0_i32 : BitVec 32 := 0#32
  let c1_i32_5 : BitVec 32 := 1#32
  let arg7 : BitVec 32 := Scf.iv c0_i32 c1_i32_5 k0_t1
  let c2_i32_109 : BitVec 32 := 2#32
  let v221 : BitVec 32 := Scalar.muli arg7 c2_i32_109
  let c1_i32_110 : BitVec 32 := 1#32
  let v222 : BitVec 32 := Scalar.addi v221 c1_i32_110
  let c512_i32_111 : BitVec 32 := 512#32
  let v223 : BitVec 32 := Scalar.muli v222 c512_i32_111
  v223
@[reducible] def k0_t2_loop (i : grid0.Coords) : Scf.Loop 32 :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let v7 : BitVec 32 := Scalar.addi c0_i32 v6
  let c1_i32_6 : BitVec 32 := 1#32
  ⟨v10, v7, c1_i32_6⟩
def k0_mult3 (i : grid0.Coords) (k0_t2 : Fin (k0_t2_loop i).trips) : BitVec 32 :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_6 : BitVec 32 := 1#32
  let arg7 : BitVec 32 := Scf.iv v10 c1_i32_6 k0_t2
  let c2_i32_78 : BitVec 32 := 2#32
  let v165 : BitVec 32 := Scalar.muli arg7 c2_i32_78
  let c0_i32_79 : BitVec 32 := 0#32
  let v166 : BitVec 32 := Scalar.addi v165 c0_i32_79
  let c512_i32_80 : BitVec 32 := 512#32
  let v167 : BitVec 32 := Scalar.muli v166 c512_i32_80
  v167
def k0_off5 (i : grid0.Coords) (k0_t2 : Fin (k0_t2_loop i).trips) (c0_i32_79 : BitVec 32) : Fin 4 → Nat :=
  let c0_85 : Index := 0#32
  let c0_86 : Index := 0#32
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_6 : BitVec 32 := 1#32
  let arg7 : BitVec 32 := Scf.iv v10 c1_i32_6 k0_t2
  let c2_i32_78 : BitVec 32 := 2#32
  let v165 : BitVec 32 := Scalar.muli arg7 c2_i32_78
  let v166 : BitVec 32 := Scalar.addi v165 c0_i32_79
  let c512_i32_80 : BitVec 32 := 512#32
  let v167 : BitVec 32 := Scalar.muli v166 c512_i32_80
  let v168 : BitVec 32 := v167
  let v171 : Index := Scalar.indexCast v168
  let c0_87 : Index := 0#32
  ![0, 0, v171.toNat, 0]
def k0_off6 (i : grid0.Coords) (k0_t2 : Fin (k0_t2_loop i).trips) (c0_i32_79 : BitVec 32) : Fin 4 → Nat :=
  let c0_91 : Index := 0#32
  let c0_92 : Index := 0#32
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_6 : BitVec 32 := 1#32
  let arg7 : BitVec 32 := Scf.iv v10 c1_i32_6 k0_t2
  let c2_i32_78 : BitVec 32 := 2#32
  let v165 : BitVec 32 := Scalar.muli arg7 c2_i32_78
  let v166 : BitVec 32 := Scalar.addi v165 c0_i32_79
  let c512_i32_80 : BitVec 32 := 512#32
  let v167 : BitVec 32 := Scalar.muli v166 c512_i32_80
  let v168 : BitVec 32 := v167
  let v190 : Index := Scalar.indexCast v168
  let c0_93 : Index := 0#32
  ![0, 0, v190.toNat, 0]
def k0_off7 (i : grid0.Coords) (k0_t2 : Fin (k0_t2_loop i).trips) (c0_i32_79 : BitVec 32) : Fin 4 → Nat :=
  let c0_99 : Index := 0#32
  let c1_100 : Index := 1#32
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_6 : BitVec 32 := 1#32
  let arg7 : BitVec 32 := Scf.iv v10 c1_i32_6 k0_t2
  let c2_i32_78 : BitVec 32 := 2#32
  let v165 : BitVec 32 := Scalar.muli arg7 c2_i32_78
  let v166 : BitVec 32 := Scalar.addi v165 c0_i32_79
  let c512_i32_80 : BitVec 32 := 512#32
  let v167 : BitVec 32 := Scalar.muli v166 c512_i32_80
  let v168 : BitVec 32 := v167
  let v197 : Index := Scalar.indexCast v168
  let c0_101 : Index := 0#32
  ![0, 1, v197.toNat, 0]
def k0_off8 (i : grid0.Coords) (k0_t2 : Fin (k0_t2_loop i).trips) (c0_i32_79 : BitVec 32) : Fin 4 → Nat :=
  let c0_105 : Index := 0#32
  let c1_106 : Index := 1#32
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_6 : BitVec 32 := 1#32
  let arg7 : BitVec 32 := Scf.iv v10 c1_i32_6 k0_t2
  let c2_i32_78 : BitVec 32 := 2#32
  let v165 : BitVec 32 := Scalar.muli arg7 c2_i32_78
  let v166 : BitVec 32 := Scalar.addi v165 c0_i32_79
  let c512_i32_80 : BitVec 32 := 512#32
  let v167 : BitVec 32 := Scalar.muli v166 c512_i32_80
  let v168 : BitVec 32 := v167
  let v216 : Index := Scalar.indexCast v168
  let c0_107 : Index := 0#32
  ![0, 1, v216.toNat, 0]
def k0_mult4 (i : grid0.Coords) (k0_t2 : Fin (k0_t2_loop i).trips) : BitVec 32 :=
  let c0_i32 : BitVec 32 := 0#32
  let arg2 : BitVec 32 := BitVec.ofNat 32 (i 2).val
  let v6 : BitVec 32 := Scalar.subi arg2 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_6 : BitVec 32 := 1#32
  let arg7 : BitVec 32 := Scf.iv v10 c1_i32_6 k0_t2
  let c2_i32_109 : BitVec 32 := 2#32
  let v221 : BitVec 32 := Scalar.muli arg7 c2_i32_109
  let c1_i32_110 : BitVec 32 := 1#32
  let v222 : BitVec 32 := Scalar.addi v221 c1_i32_110
  let c512_i32_111 : BitVec 32 := 512#32
  let v223 : BitVec 32 := Scalar.muli v222 c512_i32_111
  v223
def k0_mult5 (i : grid0.Coords) : BitVec 32 :=
  let arg2 : BitVec 32 := BitVec.ofNat 32 (i 2).val
  let c2_i32 : BitVec 32 := 2#32
  let v13 : BitVec 32 := Scalar.muli arg2 c2_i32
  let c0_i32_7 : BitVec 32 := 0#32
  let v14 : BitVec 32 := Scalar.addi v13 c0_i32_7
  let c512_i32 : BitVec 32 := 512#32
  let v15 : BitVec 32 := Scalar.muli v14 c512_i32
  v15
def k0_off9 (i : grid0.Coords) (c0_i32_7 : BitVec 32) : Fin 4 → Nat :=
  let c0_11 : Index := 0#32
  let c0_12 : Index := 0#32
  let arg2 : BitVec 32 := BitVec.ofNat 32 (i 2).val
  let c2_i32 : BitVec 32 := 2#32
  let v13 : BitVec 32 := Scalar.muli arg2 c2_i32
  let v14 : BitVec 32 := Scalar.addi v13 c0_i32_7
  let c512_i32 : BitVec 32 := 512#32
  let v15 : BitVec 32 := Scalar.muli v14 c512_i32
  let v16 : BitVec 32 := v15
  let v19 : Index := Scalar.indexCast v16
  let c0_13 : Index := 0#32
  ![0, 0, v19.toNat, 0]
def k0_off10 (i : grid0.Coords) (c0_i32_7 : BitVec 32) : Fin 4 → Nat :=
  let c0_19 : Index := 0#32
  let c0_20 : Index := 0#32
  let arg2 : BitVec 32 := BitVec.ofNat 32 (i 2).val
  let c2_i32 : BitVec 32 := 2#32
  let v13 : BitVec 32 := Scalar.muli arg2 c2_i32
  let v14 : BitVec 32 := Scalar.addi v13 c0_i32_7
  let c512_i32 : BitVec 32 := 512#32
  let v15 : BitVec 32 := Scalar.muli v14 c512_i32
  let v16 : BitVec 32 := v15
  let v45 : Index := Scalar.indexCast v16
  let c0_21 : Index := 0#32
  ![0, 0, v45.toNat, 0]
def k0_off11 (i : grid0.Coords) (c0_i32_7 : BitVec 32) : Fin 4 → Nat :=
  let c0_26 : Index := 0#32
  let c1_27 : Index := 1#32
  let arg2 : BitVec 32 := BitVec.ofNat 32 (i 2).val
  let c2_i32 : BitVec 32 := 2#32
  let v13 : BitVec 32 := Scalar.muli arg2 c2_i32
  let v14 : BitVec 32 := Scalar.addi v13 c0_i32_7
  let c512_i32 : BitVec 32 := 512#32
  let v15 : BitVec 32 := Scalar.muli v14 c512_i32
  let v16 : BitVec 32 := v15
  let v52 : Index := Scalar.indexCast v16
  let c0_28 : Index := 0#32
  ![0, 1, v52.toNat, 0]
def k0_off12 (i : grid0.Coords) (c0_i32_7 : BitVec 32) : Fin 4 → Nat :=
  let c0_34 : Index := 0#32
  let c1_35 : Index := 1#32
  let arg2 : BitVec 32 := BitVec.ofNat 32 (i 2).val
  let c2_i32 : BitVec 32 := 2#32
  let v13 : BitVec 32 := Scalar.muli arg2 c2_i32
  let v14 : BitVec 32 := Scalar.addi v13 c0_i32_7
  let c512_i32 : BitVec 32 := 512#32
  let v15 : BitVec 32 := Scalar.muli v14 c512_i32
  let v16 : BitVec 32 := v15
  let v78 : Index := Scalar.indexCast v16
  let c0_36 : Index := 0#32
  ![0, 1, v78.toNat, 0]
def k0_mult6 (i : grid0.Coords) : BitVec 32 :=
  let arg2 : BitVec 32 := BitVec.ofNat 32 (i 2).val
  let c2_i32_38 : BitVec 32 := 2#32
  let v83 : BitVec 32 := Scalar.muli arg2 c2_i32_38
  let c1_i32_39 : BitVec 32 := 1#32
  let v84 : BitVec 32 := Scalar.addi v83 c1_i32_39
  let c512_i32_40 : BitVec 32 := 512#32
  let v85 : BitVec 32 := Scalar.muli v84 c512_i32_40
  v85
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x4096x8x192 : Shape := ⟨4, ![2, 4096, 8, 192]⟩
abbrev S2x4096x8x128 : Shape := ⟨4, ![2, 4096, 8, 128]⟩
abbrev S2x8x4096x4096 : Shape := ⟨4, ![2, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S2x4096x1024 : Shape := ⟨3, ![2, 4096, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2x4096x8x192, .f32⟩
  | .hbm, ⟨1, _⟩ => ⟨S2x4096x8x192, .f32⟩
  | .hbm, ⟨2, _⟩ => ⟨S2x4096x8x128, .f32⟩
  | .hbm, ⟨3, _⟩ => ⟨S2x8x4096x4096, .f32⟩
  | .hbm, ⟨4, _⟩ => ⟨S_, .f32⟩
  | .hbm, ⟨5, _⟩ => ⟨S2x8x4096x4096, .f32⟩
  | .hbm, ⟨6, _⟩ => ⟨S2x8x4096x4096, .f32⟩
  | .hbm, ⟨7, _⟩ => ⟨S4096, .i32⟩
  | .hbm, ⟨8, _⟩ => ⟨S4096x1, .i32⟩
  | .hbm, ⟨9, _⟩ => ⟨S1x4096, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S2x8x4096x4096, .i1⟩
  | .hbm, ⟨16, _⟩ => ⟨S2x8x4096x4096, .f32⟩
  | .hbm, ⟨17, _⟩ => ⟨S2x8x4096x4096, .f32⟩
  | .hbm, ⟨18, _⟩ => ⟨S_, .f32⟩
  | .hbm, ⟨19, _⟩ => ⟨S2x8x4096, .f32⟩
  | .hbm, ⟨20, _⟩ => ⟨S_, .f32⟩
  | .hbm, ⟨21, _⟩ => ⟨S2x8x4096, .f32⟩
  | .hbm, ⟨22, _⟩ => ⟨S2x8x4096, .f32⟩
  | .hbm, ⟨23, _⟩ => ⟨S2x8x4096x1, .f32⟩
  | .hbm, ⟨24, _⟩ => ⟨S2x8x4096x4096, .f32⟩
  | .hbm, ⟨25, _⟩ => ⟨S2x8x4096x4096, .f32⟩
  | .hbm, ⟨26, _⟩ => ⟨S2x8x4096x4096, .f32⟩
  | .hbm, ⟨27, _⟩ => ⟨S_, .f32⟩
  | .hbm, ⟨28, _⟩ => ⟨S2x8x4096, .f32⟩
  | .hbm, ⟨29, _⟩ => ⟨S2x8x4096x1, .f32⟩
  | .hbm, ⟨30, _⟩ => ⟨S2x8x4096x4096, .f32⟩
  | .hbm, ⟨31, _⟩ => ⟨S2x8x4096x4096, .f32⟩
  | .hbm, ⟨32, _⟩ => ⟨S2x8x128x4096, .f32⟩
  | .hbm, ⟨33, _⟩ => ⟨S2x4096x8x128, .f32⟩
  | .hbm, ⟨34, _⟩ => ⟨S2x4096x1024, .f32⟩
  | .hbm, ⟨35, _⟩ => ⟨S2x4096x1024, .bf16⟩
  | _, _ => ⟨S2x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel2.lean ====
abbrev S8192x4096 : Shape := ⟨2, ![8192, 4096]⟩
abbrev S1x4096x11008 : Shape := ⟨3, ![1, 4096, 11008]⟩
abbrev S_ : Shape := ⟨0, ![]⟩
abbrev S8 : Shape := ⟨1, ![8]⟩
abbrev S8192x11008 : Shape := ⟨2, ![8192, 11008]⟩
abbrev S1024x4096 : Shape := ⟨2, ![1024, 4096]⟩
abbrev S1 : Shape := ⟨1, ![1]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 6
  | .vmem => 8
  | .smem => 3
  | _ => 0

abbrev bufTy : (tb : Table) → Fin (tcTables nBuf tb) → BufTy
  | .hbm, ⟨0, _⟩ => ⟨S8192x4096, .bf16⟩
  | .hbm, ⟨1, _⟩ => ⟨S1x4096x11008, .f32⟩
  | .hbm, ⟨2, _⟩ => ⟨S1x4096x11008, .f32⟩
  | .hbm, ⟨3, _⟩ => ⟨S_, .i32⟩
  | .hbm, ⟨4, _⟩ => ⟨S_, .i32⟩
  | .hbm, ⟨5, _⟩ => ⟨S8192x11008, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1024x256, .bf16⟩
  | .local _ .vmem, ⟨7, _⟩ => ⟨S1024x256, .bf16⟩
  | .local _ .smem, ⟨0, _⟩ => ⟨S8, .i32⟩
  | .local _ .smem, ⟨1, _⟩ => ⟨S8, .i32⟩
  | .local _ .smem, ⟨2, _⟩ => ⟨S8, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v3 : Ref sig .tc := ⟨.hbm, 5, rfl⟩
abbrev main_v0 : Ref sig .tc := ⟨.smem, 0, rfl⟩
abbrev main_v1 : Ref sig .tc := ⟨.smem, 1, rfl⟩
abbrev main_v2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

abbrev pre0 : Pipeline.Prefetch sig := ⟨3, ![main_v0.idx, main_v1.idx, main_v2.idx], fun | 0 => main_v0.names | 1 => main_v1.names | 2 => main_v2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c1_i32 : BitVec 32 := 1#32
  let v5 : BitVec 1 := Scalar.cmpi .eq v1 c1_i32
  let v6 : BitVec 32 := Scalar.extui v5
  let c0_i32_1 : BitVec 32 := 0#32
  let v7 : BitVec 1 := Scalar.cmpi .ne v6 c0_i32_1
  v7

def cc0_transform_0 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S8) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let v2 : Index := Scalar.indexCast arg0
  let v3 : BitVec 32 := pf.at 1 (Rect.unit (s := S8) ![v2.toNat] S1.size (k0_off1_inb i)) numel1_S1
  let c0_i32 : BitVec 32 := 0#32
  let v4 : BitVec 1 := Scalar.cmpi .sgt v3 c0_i32
  let c42_i32 : BitVec 32 := 42#32
  let v5 : BitVec 32 := Scalar.select v4 arg1 c42_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let v2 : Index := Scalar.indexCast arg0
  let v3 : BitVec 32 := pf.at 1 (Rect.unit (s := S8) ![v2.toNat] S1.size (k0_off1_inb i)) numel1_S1
  let c0_i32 : BitVec 32 := 0#32
  let v4 : BitVec 1 := Scalar.cmpi .sgt v3 c0_i32
  let c42_i32 : BitVec 32 := 42#32
  let v5 : BitVec 32 := Scalar.select v4 arg1 c42_i32
  let c0_i32_0 : BitVec 32 := 0#32
  let c0_i32_1 : BitVec 32 := 0#32
  ![v1.toNat, c0_i32_0.toNat, v5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x4096 : Shape := ⟨2, ![8192, 4096]⟩
abbrev S1x4096x11008 : Shape := ⟨3, ![1, 4096, 11008]⟩
abbrev S4096x11008 : Shape := ⟨2, ![4096, 11008]⟩
abbrev S8192x11008 : Shape := ⟨2, ![8192, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x11008, .f32⟩
  | .hbm, ⟨2, _⟩ => ⟨S1x4096x11008, .f32⟩
  | .hbm, ⟨3, _⟩ => ⟨S8192x4096, .f32⟩
  | .hbm, ⟨4, _⟩ => ⟨S4096x11008, .f32⟩
  | .hbm, ⟨5, _⟩ => ⟨S8192x11008, .f32⟩
  | .hbm, ⟨6, _⟩ => ⟨S8192x11008, .f32⟩
  | .hbm, ⟨7, _⟩ => ⟨S8192x11008, .f32⟩
  | .hbm, ⟨8, _⟩ => ⟨S_, .f32⟩
  | .hbm, ⟨9, _⟩ => ⟨S8192x11008, .f32⟩
  | .hbm, ⟨10, _⟩ => ⟨S8192x11008, .f32⟩
  | .hbm, ⟨11, _⟩ => ⟨S_, .f32⟩
  | .hbm, ⟨12, _⟩ => ⟨S8192x11008, .f32⟩
  | .hbm, ⟨13, _⟩ => ⟨S8192x11008, .f32⟩
  | .hbm, ⟨14, _⟩ => ⟨S8192x11008, .f32⟩
  | .hbm, ⟨15, _⟩ => ⟨S4096x11008, .f32⟩
  | .hbm, ⟨16, _⟩ => ⟨S8192x11008, .f32⟩
  | .hbm, ⟨17, _⟩ => ⟨S8192x11008, .f32⟩
  | .hbm, ⟨18, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel3.lean ====
abbrev S8192x11008 : Shape := ⟨2, ![8192, 11008]⟩
abbrev S1x11008x4096 : Shape := ⟨3, ![1, 11008, 4096]⟩
abbrev S8192x4096 : Shape := ⟨2, ![8192, 4096]⟩
abbrev S2048x1536 : Shape := ⟨2, ![2048, 1536]⟩
abbrev S2048x256 : Shape := ⟨2, ![2048, 256]⟩
abbrev S1x1536x1024 : Shape := ⟨3, ![1, 1536, 1024]⟩
abbrev S1x256x1024 : Shape := ⟨3, ![1, 256, 1024]⟩
abbrev S2048x1024 : Shape := ⟨2, ![2048, 1024]⟩
abbrev S1536x1024 : Shape := ⟨2, ![1536, 1024]⟩
abbrev S256x1024 : Shape := ⟨2, ![256, 1024]⟩

abbrev nBuf : Space → Nat
  | .hbm => 3
  | .vmem => 11
  | .smem => 0
  | _ => 0

abbrev bufTy : (tb : Table) → Fin (tcTables nBuf tb) → BufTy
  | .hbm, ⟨0, _⟩ => ⟨S8192x11008, .bf16⟩
  | .hbm, ⟨1, _⟩ => ⟨S1x11008x4096, .f32⟩
  | .hbm, ⟨2, _⟩ => ⟨S8192x4096, .bf16⟩
  | .local _ .vmem, ⟨0, _⟩ => ⟨S2048x1536, .bf16⟩
  | .local _ .vmem, ⟨1, _⟩ => ⟨S2048x1536, .bf16⟩
  | .local _ .vmem, ⟨2, _⟩ => ⟨S2048x256, .bf16⟩
  | .local _ .vmem, ⟨3, _⟩ => ⟨S2048x256, .bf16⟩
  | .local _ .vmem, ⟨4, _⟩ => ⟨S1x1536x1024, .f32⟩
  | .local _ .vmem, ⟨5, _⟩ => ⟨S1x1536x1024, .f32⟩
  | .local _ .vmem, ⟨6, _⟩ => ⟨S1x256x1024, .f32⟩
  | .local _ .vmem, ⟨7, _⟩ => ⟨S1x256x1024, .f32⟩
  | .local _ .vmem, ⟨8, _⟩ => ⟨S2048x1024, .bf16⟩
  | .local _ .vmem, ⟨9, _⟩ => ⟨S2048x1024, .bf16⟩
  | .local _ .vmem, ⟨10, _⟩ => ⟨S2048x1024, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.minsi arg2 c6_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c42_i32 : BitVec 32 := 42#32
  let c0_i32 : BitVec 32 := 0#32
  ![arg0.toNat, c42_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.minsi arg2 c6_i32
  let c0_i32 : BitVec 32 := 0#32
  let c0_i32_0 : BitVec 32 := 0#32
  ![c0_i32.toNat, v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c42_i32 : BitVec 32 := 42#32
  let c0_i32_0 : BitVec 32 := 0#32
  ![c0_i32.toNat, c42_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S8192x11008 : Shape := ⟨2, ![8192, 11008]⟩
abbrev S1x11008x4096 : Shape := ⟨3, ![1, 11008, 4096]⟩
abbrev S11008x4096 : Shape := ⟨2, ![11008, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S1x11008x4096, .f32⟩
  | .hbm, ⟨2, _⟩ => ⟨S8192x11008, .f32⟩
  | .hbm, ⟨3, _⟩ => ⟨S11008x4096, .f32⟩
  | .hbm, ⟨4, _⟩ => ⟨S8192x4096, .f32⟩
  | .hbm, ⟨5, _⟩ => ⟨S8192x4096, .bf16⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S21 : Shape := ⟨1, ![21]⟩
abbrev S26880x4096 : Shape := ⟨2, ![26880, 4096]⟩
abbrev S8x4096x5504 : Shape := ⟨3, ![8, 4096, 5504]⟩
abbrev S_ : Shape := ⟨0, ![]⟩
abbrev S8x4096x5632 : Shape := ⟨3, ![8, 4096, 5632]⟩
abbrev S26880x5504 : Shape := ⟨2, ![26880, 5504]⟩
abbrev S1280x4096 : Shape := ⟨2, ![1280, 4096]⟩
abbrev S1 : Shape := ⟨1, ![1]⟩
abbrev S1x4096x256 : Shape := ⟨3, ![1, 4096, 256]⟩
abbrev S1280x256 : Shape := ⟨2, ![1280, 256]⟩
abbrev S128x4096 : Shape := ⟨2, ![128, 4096]⟩
abbrev S4096x256 : Shape := ⟨2, ![4096, 256]⟩
abbrev S128x256 : Shape := ⟨2, ![128, 256]⟩
abbrev S1152x256 : Shape := ⟨2, ![1152, 256]⟩
abbrev S256x4096 : Shape := ⟨2, ![256, 4096]⟩
abbrev S256x256 : Shape := ⟨2, ![256, 256]⟩
abbrev S1024x256 : Shape := ⟨2, ![1024, 256]⟩
abbrev S384x4096 : Shape := ⟨2, ![384, 4096]⟩
abbrev S384x256 : Shape := ⟨2, ![384, 256]⟩
abbrev S896x256 : Shape := ⟨2, ![896, 256]⟩
abbrev S512x4096 : Shape := ⟨2, ![512, 4096]⟩
abbrev S512x256 : Shape := ⟨2, ![512, 256]⟩
abbrev S768x256 : Shape := ⟨2, ![768, 256]⟩
abbrev S640x4096 : Shape := ⟨2, ![640, 4096]⟩
abbrev S640x256 : Shape := ⟨2, ![640, 256]⟩
abbrev S768x4096 : Shape := ⟨2, ![768, 4096]⟩
abbrev S896x4096 : Shape := ⟨2, ![896, 4096]⟩
abbrev S1024x4096 : Shape := ⟨2, ![1024, 4096]⟩
abbrev S1152x4096 : Shape := ⟨2, ![1152, 4096]⟩

abbrev nBuf : Space → Nat
  | .hbm => 10
  | .vmem => 8
  | .smem => 3
  | _ => 0

abbrev bufTy : (tb : Table) → Fin (tcTables nBuf tb) → BufTy
  | .hbm, ⟨0, _⟩ => ⟨S26880x4096, .bf16⟩
  | .hbm, ⟨1, _⟩ => ⟨S8x4096x5504, .f32⟩
  | .hbm, ⟨2, _⟩ => ⟨S8x4096x5504, .f32⟩
  | .hbm, ⟨3, _⟩ => ⟨S_, .i32⟩
  | .hbm, ⟨4, _⟩ => ⟨S_, .f32⟩
  | .hbm, ⟨5, _⟩ => ⟨S8x4096x5632, .f32⟩
  | .hbm, ⟨6, _⟩ => ⟨S_, .i32⟩
  | .hbm, ⟨7, _⟩ => ⟨S_, .f32⟩
  | .hbm, ⟨8, _⟩ => ⟨S8x4096x5632, .f32⟩
  | .hbm, ⟨9, _⟩ => ⟨S26880x5504, .bf16⟩
  | .local _ .vmem, ⟨0, _⟩ => ⟨S1280x4096, .bf16⟩
  | .local _ .vmem, ⟨1, _⟩ => ⟨S1280x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1280x256, .bf16⟩
  | .local _ .vmem, ⟨7, _⟩ => ⟨S1280x256, .bf16⟩
  | .local _ .smem, ⟨0, _⟩ => ⟨S21, .i32⟩
  | .local _ .smem, ⟨1, _⟩ => ⟨S21, .i32⟩
  | .local _ .smem, ⟨2, _⟩ => ⟨S21, .i32⟩
  | _, _ => ⟨S26880x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![21, 22], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c1_i32 : BitVec 32 := 1#32
  let v5 : BitVec 1 := Scalar.cmpi .eq v1 c1_i32
  let v6 : BitVec 32 := Scalar.extui v5
  let c0_i32_1 : BitVec 32 := 0#32
  let v7 : BitVec 1 := Scalar.cmpi .ne v6 c0_i32_1
  v7

def k0_cond3 (v1 : BitVec 32) : BitVec 1 :=
  let c2_i32 : BitVec 32 := 2#32
  let v8 : BitVec 1 := Scalar.cmpi .eq v1 c2_i32
  let v9 : BitVec 32 := Scalar.extui v8
  let c0_i32_2 : BitVec 32 := 0#32
  let v10 : BitVec 1 := Scalar.cmpi .ne v9 c0_i32_2
  v10

def k0_cond4 (v1 : BitVec 32) : BitVec 1 :=
  let c3_i32 : BitVec 32 := 3#32
  let v11 : BitVec 1 := Scalar.cmpi .eq v1 c3_i32
  let v12 : BitVec 32 := Scalar.extui v11
  let c0_i32_3 : BitVec 32 := 0#32
  let v13 : BitVec 1 := Scalar.cmpi .ne v12 c0_i32_3
  v13

def k0_cond5 (v1 : BitVec 32) : BitVec 1 :=
  let c4_i32 : BitVec 32 := 4#32
  let v14 : BitVec 1 := Scalar.cmpi .eq v1 c4_i32
  let v15 : BitVec 32 := Scalar.extui v14
  let c0_i32_4 : BitVec 32 := 0#32
  let v16 : BitVec 1 := Scalar.cmpi .ne v15 c0_i32_4
  v16

def k0_cond6 (v1 : BitVec 32) : BitVec 1 :=
  let c5_i32 : BitVec 32 := 5#32
  let v17 : BitVec 1 := Scalar.cmpi .eq v1 c5_i32
  let v18 : BitVec 32 := Scalar.extui v17
  let c0_i32_5 : BitVec 32 := 0#32
  let v19 : BitVec 1 := Scalar.cmpi .ne v18 c0_i32_5
  v19

def k0_cond7 (v1 : BitVec 32) : BitVec 1 :=
  let c6_i32 : BitVec 32 := 6#32
  let v20 : BitVec 1 := Scalar.cmpi .eq v1 c6_i32
  let v21 : BitVec 32 := Scalar.extui v20
  let c0_i32_6 : BitVec 32 := 0#32
  let v22 : BitVec 1 := Scalar.cmpi .ne v21 c0_i32_6
  v22

def k0_cond8 (v1 : BitVec 32) : BitVec 1 :=
  let c7_i32 : BitVec 32 := 7#32
  let v23 : BitVec 1 := Scalar.cmpi .eq v1 c7_i32
  let v24 : BitVec 32 := Scalar.extui v23
  let c0_i32_7 : BitVec 32 := 0#32
  let v25 : BitVec 1 := Scalar.cmpi .ne v24 c0_i32_7
  v25

def k0_cond9 (v1 : BitVec 32) : BitVec 1 :=
  let c8_i32 : BitVec 32 := 8#32
  let v26 : BitVec 1 := Scalar.cmpi .eq v1 c8_i32
  let v27 : BitVec 32 := Scalar.extui v26
  let c0_i32_8 : BitVec 32 := 0#32
  let v28 : BitVec 1 := Scalar.cmpi .ne v27 c0_i32_8
  v28

def k0_cond10 (v1 : BitVec 32) : BitVec 1 :=
  let c9_i32 : BitVec 32 := 9#32
  let v29 : BitVec 1 := Scalar.cmpi .eq v1 c9_i32
  let v30 : BitVec 32 := Scalar.extui v29
  let c0_i32_9 : BitVec 32 := 0#32
  let v31 : BitVec 1 := Scalar.cmpi .ne v30 c0_i32_9
  v31

def k0_cond11 (v1 : BitVec 32) : BitVec 1 :=
  let c10_i32 : BitVec 32 := 10#32
  let v32 : BitVec 1 := Scalar.cmpi .eq v1 c10_i32
  let v33 : BitVec 32 := Scalar.extui v32
  let c0_i32_10 : BitVec 32 := 0#32
  let v34 : BitVec 1 := Scalar.cmpi .ne v33 c0_i32_10
  v34

def cc0_transform_0 (k0_off1_inb : ∀ i : grid0.Coords, ∀ a, (k0_off1 i) a + S1.size a ≤ S21.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S21) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S21.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S21) ![v0.toNat] S1.size (k0_off1_inb i)) numel1_S1
  let v2 : Index := Scalar.indexCast arg0
  let v3 : BitVec 32 := pf.at 1 (Rect.unit (s := S21) ![v2.toNat] S1.size (k0_off1_inb i)) numel1_S1
  let c0_i32 : BitVec 32 := 0#32
  let v4 : BitVec 1 := Scalar.cmpi .sgt v3 c0_i32
  let c21_i32 : BitVec 32 := 21#32
  let v5 : BitVec 32 := Scalar.select v4 arg1 c21_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S21.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S21) ![v0.toNat] S1.size (k0_off1_inb i)) numel1_S1
  let v2 : Index := Scalar.indexCast arg0
  let v3 : BitVec 32 := pf.at 1 (Rect.unit (s := S21) ![v2.toNat] S1.size (k0_off1_inb i)) numel1_S1
  let c0_i32 : BitVec 32 := 0#32
  let v4 : BitVec 1 := Scalar.cmpi .sgt v3 c0_i32
  let c21_i32 : BitVec 32 := 21#32
  let v5 : BitVec 32 := Scalar.select v4 arg1 c21_i32
  let c0_i32_0 : BitVec 32 := 0#32
  let c0_i32_1 : BitVec 32 := 0#32
  ![v1.toNat, c0_i32_0.toNat, v5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1280x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S21 : Shape := ⟨1, ![21]⟩
abbrev S26880x4096 : Shape := ⟨2, ![26880, 4096]⟩
abbrev S8x4096x5504 : Shape := ⟨3, ![8, 4096, 5504]⟩
abbrev S26880x8x5504 : Shape := ⟨3, ![26880, 8, 5504]⟩
abbrev S_ : Shape := ⟨0, ![]⟩
abbrev S1280 : Shape := ⟨1, ![1280]⟩
abbrev S1x1280 : Shape := ⟨2, ![1, 1280]⟩
abbrev S21x1 : Shape := ⟨2, ![21, 1]⟩
abbrev S21x1280 : Shape := ⟨2, ![21, 1280]⟩
abbrev S26880x1 : Shape := ⟨2, ![26880, 1]⟩
abbrev S26880 : Shape := ⟨1, ![26880]⟩
abbrev S1x8 : Shape := ⟨2, ![1, 8]⟩
abbrev S26880x8 : Shape := ⟨2, ![26880, 8]⟩
abbrev S26880x5504 : Shape := ⟨2, ![26880, 5504]⟩

abbrev nBuf : Space → Nat
  | .hbm => 44
  | .vmem => 0
  | .smem => 0
  | _ => 0

abbrev bufTy : (tb : Table) → Fin (tcTables nBuf tb) → BufTy
  | .hbm, ⟨0, _⟩ => ⟨S21, .i32⟩
  | .hbm, ⟨1, _⟩ => ⟨S21, .i32⟩
  | .hbm, ⟨2, _⟩ => ⟨S21, .i32⟩
  | .hbm, ⟨3, _⟩ => ⟨S26880x4096, .bf16⟩
  | .hbm, ⟨4, _⟩ => ⟨S8x4096x5504, .f32⟩
  | .hbm, ⟨5, _⟩ => ⟨S8x4096x5504, .f32⟩
  | .hbm, ⟨6, _⟩ => ⟨S26880x4096, .f32⟩
  | .hbm, ⟨7, _⟩ => ⟨S26880x8x5504, .f32⟩
  | .hbm, ⟨8, _⟩ => ⟨S26880x8x5504, .f32⟩
  | .hbm, ⟨9, _⟩ => ⟨S26880x8x5504, .f32⟩
  | .hbm, ⟨10, _⟩ => ⟨S_, .f32⟩
  | .hbm, ⟨11, _⟩ => ⟨S26880x8x5504, .f32⟩
  | .hbm, ⟨12, _⟩ => ⟨S26880x8x5504, .f32⟩
  | .hbm, ⟨13, _⟩ => ⟨S_, .f32⟩
  | .hbm, ⟨14, _⟩ => ⟨S26880x8x5504, .f32⟩
  | .hbm, ⟨15, _⟩ => ⟨S26880x8x5504, .f32⟩
  | .hbm, ⟨16, _⟩ => ⟨S26880x8x5504, .f32⟩
  | .hbm, ⟨17, _⟩ => ⟨S26880x8x5504, .f32⟩
  | .hbm, ⟨18, _⟩ => ⟨S26880x8x5504, .f32⟩
  | .hbm, ⟨19, _⟩ => ⟨S1280, .i32⟩
  | .hbm, ⟨20, _⟩ => ⟨S1x1280, .i32⟩
  | .hbm, ⟨21, _⟩ => ⟨S21x1, .i32⟩
  | .hbm, ⟨22, _⟩ => ⟨S_, .i32⟩
  | .hbm, ⟨23, _⟩ => ⟨S21x1, .i32⟩
  | .hbm, ⟨24, _⟩ => ⟨S21x1, .i32⟩
  | .hbm, ⟨25, _⟩ => ⟨S21x1280, .i32⟩
  | .hbm, ⟨26, _⟩ => ⟨S21x1280, .i32⟩
  | .hbm, ⟨27, _⟩ => ⟨S21x1280, .i1⟩
  | .hbm, ⟨28, _⟩ => ⟨S26880x1, .i1⟩
  | .hbm, ⟨29, _⟩ => ⟨S21x1280, .i32⟩
  | .hbm, ⟨30, _⟩ => ⟨S26880, .i32⟩
  | .hbm, ⟨31, _⟩ => ⟨S26880x1, .i32⟩
  | .hbm, ⟨32, _⟩ => ⟨S1x8, .i32⟩
  | .hbm, ⟨33, _⟩ => ⟨S26880x8, .i32⟩
  | .hbm, ⟨34, _⟩ => ⟨S26880x8, .i32⟩
  | .hbm, ⟨35, _⟩ => ⟨S26880x8, .i1⟩
  | .hbm, ⟨36, _⟩ => ⟨S26880x8, .f32⟩
  | .hbm, ⟨37, _⟩ => ⟨S_, .f32⟩
  | .hbm, ⟨38, _⟩ => ⟨S_, .f32⟩
  | .hbm, ⟨39, _⟩ => ⟨S26880x8, .i1⟩
  | .hbm, ⟨40, _⟩ => ⟨S26880x8, .f32⟩
  | .hbm, ⟨41, _⟩ => ⟨S26880x8, .f32⟩
  | .hbm, ⟨42, _⟩ => ⟨S26880x5504, .f32⟩
  | .hbm, ⟨43, _⟩ => ⟨S26880x5504, .bf16⟩
  | _, _ => ⟨S21, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v16 : Ref sig .tc := ⟨.hbm, 36, rfl⟩
abbrev main_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩

abbrev nD : Nat := 1
abbrev τ : Topo := Topo.v7x

variable {F : FTy → Type} [FloatOps F]
-- ==== Kernel5.lean ====
abbrev S21 : Shape := ⟨1, ![21]⟩
abbrev S26880x5504 : Shape := ⟨2, ![26880, 5504]⟩
abbrev S8x5504x4096 : Shape := ⟨3, ![8, 5504, 4096]⟩
abbrev S26880x4096 : Shape := ⟨2, ![26880, 4096]⟩
abbrev S1280x5504 : Shape := ⟨2, ![1280, 5504]⟩
abbrev S1 : Shape := ⟨1, ![1]⟩
abbrev S1x5504x256 : Shape := ⟨3, ![1, 5504, 256]⟩
abbrev S1280x256 : Shape := ⟨2, ![1280, 256]⟩
abbrev S128x5504 : Shape := ⟨2, ![128, 5504]⟩
abbrev S5504x256 : Shape := ⟨2, ![5504, 256]⟩
abbrev S128x256 : Shape := ⟨2, ![128, 256]⟩
abbrev S1152x256 : Shape := ⟨2, ![1152, 256]⟩
abbrev S256x5504 : Shape := ⟨2, ![256, 5504]⟩
abbrev S256x256 : Shape := ⟨2, ![256, 256]⟩
abbrev S1024x256 : Shape := ⟨2, ![1024, 256]⟩
abbrev S384x5504 : Shape := ⟨2, ![384, 5504]⟩
abbrev S384x256 : Shape := ⟨2, ![384, 256]⟩
abbrev S896x256 : Shape := ⟨2, ![896, 256]⟩
abbrev S512x5504 : Shape := ⟨2, ![512, 5504]⟩
abbrev S512x256 : Shape := ⟨2, ![512, 256]⟩
abbrev S768x256 : Shape := ⟨2, ![768, 256]⟩
abbrev S640x5504 : Shape := ⟨2, ![640, 5504]⟩
abbrev S640x256 : Shape := ⟨2, ![640, 256]⟩
abbrev S768x5504 : Shape := ⟨2, ![768, 5504]⟩
abbrev S896x5504 : Shape := ⟨2, ![896, 5504]⟩
abbrev S1024x5504 : Shape := ⟨2, ![1024, 5504]⟩
abbrev S1152x5504 : Shape := ⟨2, ![1152, 5504]⟩

abbrev nBuf : Space → Nat
  | .hbm => 3
  | .vmem => 6
  | .smem => 3
  | _ => 0

abbrev bufTy : (tb : Table) → Fin (tcTables nBuf tb) → BufTy
  | .hbm, ⟨0, _⟩ => ⟨S26880x5504, .bf16⟩
  | .hbm, ⟨1, _⟩ => ⟨S8x5504x4096, .f32⟩
  | .hbm, ⟨2, _⟩ => ⟨S26880x4096, .f32⟩
  | .local _ .vmem, ⟨0, _⟩ => ⟨S1280x5504, .bf16⟩
  | .local _ .vmem, ⟨1, _⟩ => ⟨S1280x5504, .bf16⟩
  | .local _ .vmem, ⟨2, _⟩ => ⟨S1x5504x256, .f32⟩
  | .local _ .vmem, ⟨3, _⟩ => ⟨S1x5504x256, .f32⟩
  | .local _ .vmem, ⟨4, _⟩ => ⟨S1280x256, .f32⟩
  | .local _ .vmem, ⟨5, _⟩ => ⟨S1280x256, .f32⟩
  | .local _ .smem, ⟨0, _⟩ => ⟨S21, .i32⟩
  | .local _ .smem, ⟨1, _⟩ => ⟨S21, .i32⟩
  | .local _ .smem, ⟨2, _⟩ => ⟨S21, .i32⟩
  | _, _ => ⟨S26880x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![21, 16], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c1_i32 : BitVec 32 := 1#32
  let v5 : BitVec 1 := Scalar.cmpi .eq v1 c1_i32
  let v6 : BitVec 32 := Scalar.extui v5
  let c0_i32_1 : BitVec 32 := 0#32
  let v7 : BitVec 1 := Scalar.cmpi .ne v6 c0_i32_1
  v7

def k0_cond3 (v1 : BitVec 32) : BitVec 1 :=
  let c2_i32 : BitVec 32 := 2#32
  let v8 : BitVec 1 := Scalar.cmpi .eq v1 c2_i32
  let v9 : BitVec 32 := Scalar.extui v8
  let c0_i32_2 : BitVec 32 := 0#32
  let v10 : BitVec 1 := Scalar.cmpi .ne v9 c0_i32_2
  v10

def k0_cond4 (v1 : BitVec 32) : BitVec 1 :=
  let c3_i32 : BitVec 32 := 3#32
  let v11 : BitVec 1 := Scalar.cmpi .eq v1 c3_i32
  let v12 : BitVec 32 := Scalar.extui v11
  let c0_i32_3 : BitVec 32 := 0#32
  let v13 : BitVec 1 := Scalar.cmpi .ne v12 c0_i32_3
  v13

def k0_cond5 (v1 : BitVec 32) : BitVec 1 :=
  let c4_i32 : BitVec 32 := 4#32
  let v14 : BitVec 1 := Scalar.cmpi .eq v1 c4_i32
  let v15 : BitVec 32 := Scalar.extui v14
  let c0_i32_4 : BitVec 32 := 0#32
  let v16 : BitVec 1 := Scalar.cmpi .ne v15 c0_i32_4
  v16

def k0_cond6 (v1 : BitVec 32) : BitVec 1 :=
  let c5_i32 : BitVec 32 := 5#32
  let v17 : BitVec 1 := Scalar.cmpi .eq v1 c5_i32
  let v18 : BitVec 32 := Scalar.extui v17
  let c0_i32_5 : BitVec 32 := 0#32
  let v19 : BitVec 1 := Scalar.cmpi .ne v18 c0_i32_5
  v19

def k0_cond7 (v1 : BitVec 32) : BitVec 1 :=
  let c6_i32 : BitVec 32 := 6#32
  let v20 : BitVec 1 := Scalar.cmpi .eq v1 c6_i32
  let v21 : BitVec 32 := Scalar.extui v20
  let c0_i32_6 : BitVec 32 := 0#32
  let v22 : BitVec 1 := Scalar.cmpi .ne v21 c0_i32_6
  v22

def k0_cond8 (v1 : BitVec 32) : BitVec 1 :=
  let c7_i32 : BitVec 32 := 7#32
  let v23 : BitVec 1 := Scalar.cmpi .eq v1 c7_i32
  let v24 : BitVec 32 := Scalar.extui v23
  let c0_i32_7 : BitVec 32 := 0#32
  let v25 : BitVec 1 := Scalar.cmpi .ne v24 c0_i32_7
  v25

def k0_cond9 (v1 : BitVec 32) : BitVec 1 :=
  let c8_i32 : BitVec 32 := 8#32
  let v26 : BitVec 1 := Scalar.cmpi .eq v1 c8_i32
  let v27 : BitVec 32 := Scalar.extui v26
  let c0_i32_8 : BitVec 32 := 0#32
  let v28 : BitVec 1 := Scalar.cmpi .ne v27 c0_i32_8
  v28

def k0_cond10 (v1 : BitVec 32) : BitVec 1 :=
  let c9_i32 : BitVec 32 := 9#32
  let v29 : BitVec 1 := Scalar.cmpi .eq v1 c9_i32
  let v30 : BitVec 32 := Scalar.extui v29
  let c0_i32_9 : BitVec 32 := 0#32
  let v31 : BitVec 1 := Scalar.cmpi .ne v30 c0_i32_9
  v31

def k0_cond11 (v1 : BitVec 32) : BitVec 1 :=
  let c10_i32 : BitVec 32 := 10#32
  let v32 : BitVec 1 := Scalar.cmpi .eq v1 c10_i32
  let v33 : BitVec 32 := Scalar.extui v32
  let c0_i32_10 : BitVec 32 := 0#32
  let v34 : BitVec 1 := Scalar.cmpi .ne v33 c0_i32_10
  v34

def cc0_transform_0 (k0_off1_inb : ∀ i : grid0.Coords, ∀ a, (k0_off1 i) a + S1.size a ≤ S21.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S21) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S21.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S21) ![v0.toNat] S1.size (k0_off1_inb i)) numel1_S1
  let v2 : Index := Scalar.indexCast arg0
  let v3 : BitVec 32 := pf.at 1 (Rect.unit (s := S21) ![v2.toNat] S1.size (k0_off1_inb i)) numel1_S1
  let c0_i32 : BitVec 32 := 0#32
  let v4 : BitVec 1 := Scalar.cmpi .sgt v3 c0_i32
  let c15_i32 : BitVec 32 := 15#32
  let v5 : BitVec 32 := Scalar.select v4 arg1 c15_i32
  let c0_i32_0 : BitVec 32 := 0#32
  let c0_i32_1 : BitVec 32 := 0#32
  ![v1.toNat, c0_i32_0.toNat, v5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5504x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1280x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S21 : Shape := ⟨1, ![21]⟩
abbrev S26880x5504 : Shape := ⟨2, ![26880, 5504]⟩
abbrev S8x5504x4096 : Shape := ⟨3, ![8, 5504, 4096]⟩
abbrev S1280 : Shape := ⟨1, ![1280]⟩
abbrev S1x1280 : Shape := ⟨2, ![1, 1280]⟩
abbrev S21x1 : Shape := ⟨2, ![21, 1]⟩
abbrev S_ : Shape := ⟨0, ![]⟩
abbrev S21x1280 : Shape := ⟨2, ![21, 1280]⟩
abbrev S26880x1 : Shape := ⟨2, ![26880, 1]⟩
abbrev S26880 : Shape := ⟨1, ![26880]⟩
abbrev S1x8 : Shape := ⟨2, ![1, 8]⟩
abbrev S26880x8 : Shape := ⟨2, ![26880, 8]⟩
abbrev S26880x8x4096 : Shape := ⟨3, ![26880, 8, 4096]⟩
abbrev S26880x4096 : Shape := ⟨2, ![26880, 4096]⟩

abbrev nBuf : Space → Nat
  | .hbm => 31
  | .vmem => 0
  | .smem => 0
  | _ => 0

abbrev bufTy : (tb : Table) → Fin (tcTables nBuf tb) → BufTy
  | .hbm, ⟨0, _⟩ => ⟨S21, .i32⟩
  | .hbm, ⟨1, _⟩ => ⟨S21, .i32⟩
  | .hbm, ⟨2, _⟩ => ⟨S21, .i32⟩
  | .hbm, ⟨3, _⟩ => ⟨S26880x5504, .bf16⟩
  | .hbm, ⟨4, _⟩ => ⟨S8x5504x4096, .f32⟩
  | .hbm, ⟨5, _⟩ => ⟨S1280, .i32⟩
  | .hbm, ⟨6, _⟩ => ⟨S1x1280, .i32⟩
  | .hbm, ⟨7, _⟩ => ⟨S21x1, .i32⟩
  | .hbm, ⟨8, _⟩ => ⟨S_, .i32⟩
  | .hbm, ⟨9, _⟩ => ⟨S21x1, .i32⟩
  | .hbm, ⟨10, _⟩ => ⟨S21x1, .i32⟩
  | .hbm, ⟨11, _⟩ => ⟨S21x1280, .i32⟩
  | .hbm, ⟨12, _⟩ => ⟨S21x1280, .i32⟩
  | .hbm, ⟨13, _⟩ => ⟨S21x1280, .i1⟩
  | .hbm, ⟨14, _⟩ => ⟨S26880x1, .i1⟩
  | .hbm, ⟨15, _⟩ => ⟨S21x1280, .i32⟩
  | .hbm, ⟨16, _⟩ => ⟨S26880, .i32⟩
  | .hbm, ⟨17, _⟩ => ⟨S26880x1, .i32⟩
  | .hbm, ⟨18, _⟩ => ⟨S1x8, .i32⟩
  | .hbm, ⟨19, _⟩ => ⟨S26880x8, .i32⟩
  | .hbm, ⟨20, _⟩ => ⟨S26880x8, .i32⟩
  | .hbm, ⟨21, _⟩ => ⟨S26880x8, .i1⟩
  | .hbm, ⟨22, _⟩ => ⟨S26880x8, .f32⟩
  | .hbm, ⟨23, _⟩ => ⟨S_, .f32⟩
  | .hbm, ⟨24, _⟩ => ⟨S_, .f32⟩
  | .hbm, ⟨25, _⟩ => ⟨S26880x8, .i1⟩
  | .hbm, ⟨26, _⟩ => ⟨S26880x8, .f32⟩
  | .hbm, ⟨27, _⟩ => ⟨S26880x8, .f32⟩
  | .hbm, ⟨28, _⟩ => ⟨S26880x5504, .f32⟩
  | .hbm, ⟨29, _⟩ => ⟨S26880x8x4096, .f32⟩
  | .hbm, ⟨30, _⟩ => ⟨S26880x4096, .f32⟩
  | _, _ => ⟨S21, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v11 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩

abbrev nD : Nat := 1
abbrev τ : Topo := Topo.v7x

variable {F : FTy → Type} [FloatOps F]
-- ==== Proof.Body.lean ====
/-
  The kernel's body as a function on blocks: a head's queries absorb the keys and values 512 at a time, the state being
  the row maxima, the denominators and the numerators of a streaming softmax. Nothing here looks at a number: the module
  names what the run of the body finds, for any arithmetic.
-/
module

public import proofs.«01_k».proof.Proof.Gen.KernelIdeal.Value
public import Idealize.ShloMosaic.Lib.Pointwise
public import Idealize.ShloMosaic.Lib.Pipeline.ValueKit.Tiles

@[expose] public section

set_option maxRecDepth 16384

noncomputable section

namespace Cert.KernelIdeal.Attention

open Cert.KernelIdeal Cert.KernelIdeal.Gen Idealize.ShloMosaic Idealize.ShloMosaic.TcCoe Idealize.SL.Sem

variable {F : FTy → Type} [FloatOps F] [Named F]

/-! ## One step of the streaming softmax on blocks -/

/-- A head's state: the row maxima, the denominators, the numerators. -/
abbrev Carry (F : FTy → Type) := FVec F S1024x1 .f32 × FVec F S1024x1 .f32 × FVec F S1024x128 .f32

/-- The scores of 1024 queries against 512 keys. -/
def scores (q : Vec F S1x1x1024x256 .bf16) (k : Vec F S1x1x512x256 .bf16) : FVec F S1024x512 .f32 :=
  matmul dot_S1024x256_S512x256_S1024x512_1_1_0_0_n_n none (shapeCast S1024x256 q shapeCasts_S1x1x1024x256_S1024x256)
    (shapeCast S512x256 k shapeCasts_S1x1x512x256_S512x256) (constant S1024x512 .f32 0x00000000#32)

/-- The row maxima once a block of scores is seen. -/
def newMax (s : FVec F S1024x512 .f32) (M : FVec F S1024x1 .f32) : FVec F S1024x1 .f32 :=
  maximumf M (shapeCast S1024x1 (multiReduction .maximumf [1] S1024 s 0xFF800000#32 reduces_S1024x512_S1024 (.inl rfl) rfl) shapeCasts_S1024_S1024x1)

/-- The factor that takes the old sums to the new maxima. -/
def rescale (s : FVec F S1024x512 .f32) (M : FVec F S1024x1 .f32) : FVec F S1024x1 .f32 :=
  exp2 (subf M (newMax s M))

/-- The block's weights. -/
def weights (s : FVec F S1024x512 .f32) (M : FVec F S1024x1 .f32) : FVec F S1024x512 .f32 :=
  exp2 (subf s (broadcastTo S1024x512 (newMax s M) broadcasts_S1024x1_S1024x512))

/-- One block of scores `s` and values `v` absorbed. -/
def absorb (s : FVec F S1024x512 .f32) (v : Vec F S1x1x512x128 .bf16) (C : Carry F) : Carry F :=
  (newMax s C.1,
   addf (mulf (rescale s C.1) C.2.1)
     (shapeCast S1024x1 (multiReduction .add [1] S1024 (weights s C.1) 0x00000000#32 reduces_S1024x512_S1024 (.inl rfl) rfl) shapeCasts_S1024_S1024x1),
   addf (mulf (broadcastTo S1024x128 (rescale s C.1) broadcasts_S1024x1_S1024x128) C.2.2)
     (matmul dot_S1024x512_S512x128_S1024x128_1_0_0_1_n_n none (truncf .bf16 (weights s C.1) bitsLt_bf16_f32)
       (shapeCast S512x128 v shapeCasts_S1x1x512x128_S512x128) (constant S1024x128 .f32 0x00000000#32)))

/-- Scores of the diagonal block: a query sees the keys up to its own position, `d` the block's place behind the first. -/
def masked (d : BitVec 32) (s : FVec F S1024x512 .f32) : FVec F S1024x512 .f32 :=
  select (cmpi .sge (iota .tc S1024x512 32 [0] iota_S1024x512_d0_w32)
    (addi (iota .tc S1024x512 32 [1] iota_S1024x512_d1_w32) (broadcast S1024x512 d))) s
    (broadcast S1024x512 (Named.named κ "mask" 0xF149F2CA#32))

/-- The state before the first block. -/
def start : Carry F := (k0_pay41, k0_pay42, k0_pay43)

/-- What a head leaves in the result's block. -/
def quotient (C : Carry F) : FVec F S1x1024x128 .bf16 :=
  shapeCast S1x1024x128 (truncf .bf16 (divf C.2.2 (broadcastTo S1024x128 C.2.1 broadcasts_S1024x1_S1024x128)) bitsLt_bf16_f32)
    shapeCasts_S1024x128_S1x1024x128

/-! ## The blocks that a head reads -/

/-- Head `h`'s queries. -/
def queries (x0 : Vec F S1x2x1024x256 .bf16) (h : Fin 2) : Vec F S1x1x1024x256 .bf16 :=
  fun j => x0 (ix4 0 h (j 2) (j 3))

/-- Head `h`'s keys from `512 b` on. -/
def keys (x1 : Vec F S1x2x4096x256 .bf16) (h : Fin 2) (b : ℕ) : Vec F S1x1x512x256 .bf16 :=
  fun j => x1 (ix4 0 h ⟨(512 * b + (j 2).val) % 4096, Nat.mod_lt _ (by norm_num)⟩ (j 3))

/-- Head `h`'s values from `512 b` on. -/
def values (x2 : Vec F S1x2x4096x128 .bf16) (h : Fin 2) (b : ℕ) : Vec F S1x1x512x128 .bf16 :=
  fun j => x2 (ix4 0 h ⟨(512 * b + (j 2).val) % 4096, Nat.mod_lt _ (by norm_num)⟩ (j 3))

/-- Head `h`'s scores against the keys of block `b`. -/
abbrev blockScores (x0 : Vec F S1x2x1024x256 .bf16) (x1 : Vec F S1x2x4096x256 .bf16) (h : Fin 2) (b : ℕ) : FVec F S1024x512 .f32 :=
  scores (queries x0 h) (keys x1 h b)

/-- Head `h`'s state after the first `b` blocks, none of them masked. -/
def full (x0 : Vec F S1x2x1024x256 .bf16) (x1 : Vec F S1x2x4096x256 .bf16) (x2 : Vec F S1x2x4096x128 .bf16) (h : Fin 2) : ℕ → Carry F
  | 0 => start
  | b + 1 => absorb (blockScores x0 x1 h b) (values x2 h b) (full x0 x1 x2 h b)

/-- … and after the two blocks on the diagonal behind the first `2 n`. -/
def final (x0 : Vec F S1x2x1024x256 .bf16) (x1 : Vec F S1x2x4096x256 .bf16) (x2 : Vec F S1x2x4096x128 .bf16) (h : Fin 2) (n : ℕ) : Carry F :=
  absorb (masked 512#32 (blockScores x0 x1 h (2 * n + 1))) (values x2 h (2 * n + 1))
    (absorb (masked 0#32 (blockScores x0 x1 h (2 * n))) (values x2 h (2 * n)) (full x0 x1 x2 h (2 * n)))

theorem ld_queries (x0 : Vec F S1x2x1024x256 .bf16) (h : Fin 2) (off : Fin 4 → ℕ) (ho : off = ![0, h.val, 0, 0])
    (inb : ∀ a, off a + S1x1x1024x256.size a ≤ S1x2x1024x256.size a) :
    View.ld x0 (Rect.unit off S1x1x1024x256.size inb) = queries x0 h := by
  subst ho
  funext j
  idx_vars j
  pointwise [queries]

theorem ld_keys (x1 : Vec F S1x2x4096x256 .bf16) (h : Fin 2) (b : ℕ) (hb : b < 8) (off : Fin 4 → ℕ) (ho : off = ![0, h.val, 512 * b, 0])
    (inb : ∀ a, off a + S1x1x512x256.size a ≤ S1x2x4096x256.size a) :
    View.ld x1 (Rect.unit off S1x1x512x256.size inb) = keys x1 h b := by
  subst ho
  funext j
  idx_vars j
  pointwise [keys]
  congr 2
  exact Fin.ext (Nat.mod_eq_of_lt (by omega)).symm

theorem ld_values (x2 : Vec F S1x2x4096x128 .bf16) (h : Fin 2) (b : ℕ) (hb : b < 8) (off : Fin 4 → ℕ) (ho : off = ![0, h.val, 512 * b, 0])
    (inb : ∀ a, off a + S1x1x512x128.size a ≤ S1x2x4096x128.size a) :
    View.ld x2 (Rect.unit off S1x1x512x128.size inb) = values x2 h b := by
  subst ho
  funext j
  idx_vars j
  pointwise [values]
  congr 2
  exact Fin.ext (Nat.mod_eq_of_lt (by omega)).symm

/-! ## The loop -/

/-- The two heads' states as the loop carries them. -/
def pack (C D : Carry F) : FVec F S1024x1 .f32 × FVec F S1024x1 .f32 × FVec F S1024x128 .f32 × FVec F S1024x1 .f32 × FVec F S1024x1 .f32 × FVec F S1024x128 .f32 :=
  (C.1, C.2.1, C.2.2, D.1, D.2.1, D.2.2)

/-- The loop has one trip per block row in front of the point's own, the remainder loop none. -/
theorem trips_t1 : ∀ i : grid0.Coords, (k0_t1_loop i).trips = (i 2).val := by decide +kernel
theorem trips_t2 : ∀ i : grid0.Coords, (k0_t2_loop i).trips = 0 := by decide +kernel

section body

variable (c : Dev nD) (i : grid0.Coords) (arg3 : Memref sig .tc .vmem S1x2x1024x256 .bf16) (harg3 : arg3.IsWhole)
  (arg4 : Memref sig .tc .vmem S1x2x4096x256 .bf16) (harg4 : arg4.IsWhole) (arg5 : Memref sig .tc .vmem S1x2x4096x128 .bf16)
  (harg5 : arg5.IsWhole) (arg6 : Memref sig .tc .vmem S1x1024x256 .bf16) (harg6 : arg6.IsWhole)
  (x0 : Vec F S1x2x1024x256 .bf16) (x1 : Vec F S1x2x4096x256 .bf16) (x2 : Vec F S1x2x4096x128 .bf16)

/-- ONE TRIP absorbs two blocks of keys into each head's state. -/
theorem trip_eq (k : Fin (k0_t1_loop i).trips) (C D : Carry F) :
    tripR_k0_t1 (F := F) Variants.none c none i arg3 harg3 arg4 harg4 arg5 harg5 arg6 harg6 (harg3.unread x0) (harg4.unread x1) (harg5.unread x2) k (pack C D)
      = pack (absorb (blockScores x0 x1 0 (2 * k.val + 1)) (values x2 0 (2 * k.val + 1)) (absorb (blockScores x0 x1 0 (2 * k.val)) (values x2 0 (2 * k.val)) C))
          (absorb (blockScores x0 x1 1 (2 * k.val + 1)) (values x2 1 (2 * k.val + 1)) (absorb (blockScores x0 x1 1 (2 * k.val)) (values x2 1 (2 * k.val)) D)) := by
  have hk : k.val < 4 := lt_of_lt_of_le k.isLt ((trips_t1 i).trans_le (i 2).isLt.le)
  have q0 := ld_queries x0 0 ![0, 0, 0, 0] rfl inb_S1x2x1024x256_S1x1x1024x256_0_0_0_0
  have q1 := ld_queries x0 1 ![0, 1, 0, 0] rfl inb_S1x2x1024x256_S1x1x1024x256_0_1_0_0
  have a0 := ld_keys x1 0 (2 * k.val) (by omega) (k0_off1 i k 0#32) ((k0_off1_eq i k 0).trans (by simp; omega)) (fun a => by
    rw [show k0_off1 i k 0#32 = _ from k0_off1_eq i k 0]; revert a; simp [Fin.forall_fin_succ]; omega)
  have a1 := ld_keys x1 0 (2 * k.val + 1) (by omega) (k0_off1 i k 1#32) ((k0_off1_eq i k 1).trans (by simp; omega)) (fun a => by
    rw [show k0_off1 i k 1#32 = _ from k0_off1_eq i k 1]; revert a; simp [Fin.forall_fin_succ]; omega)
  have b0 := ld_values x2 0 (2 * k.val) (by omega) (k0_off2 i k 0#32) ((k0_off2_eq i k 0).trans (by simp; omega)) (fun a => by
    rw [show k0_off2 i k 0#32 = _ from k0_off2_eq i k 0]; revert a; simp [Fin.forall_fin_succ]; omega)
  have b1 := ld_values x2 0 (2 * k.val + 1) (by omega) (k0_off2 i k 1#32) ((k0_off2_eq i k 1).trans (by simp; omega)) (fun a => by
    rw [show k0_off2 i k 1#32 = _ from k0_off2_eq i k 1]; revert a; simp [Fin.forall_fin_succ]; omega)
  have c0 := ld_keys x1 1 (2 * k.val) (by omega) (k0_off3 i k 0#32) ((k0_off3_eq i k 0).trans (by simp; omega)) (fun a => by
    rw [show k0_off3 i k 0#32 = _ from k0_off3_eq i k 0]; revert a; simp [Fin.forall_fin_succ]; omega)
  have c1 := ld_keys x1 1 (2 * k.val + 1) (by omega) (k0_off3 i k 1#32) ((k0_off3_eq i k 1).trans (by simp; omega)) (fun a => by
    rw [show k0_off3 i k 1#32 = _ from k0_off3_eq i k 1]; revert a; simp [Fin.forall_fin_succ]; omega)
  have d0 := ld_values x2 1 (2 * k.val) (by omega) (k0_off4 i k 0#32) ((k0_off4_eq i k 0).trans (by simp; omega)) (fun a => by
    rw [show k0_off4 i k 0#32 = _ from k0_off4_eq i k 0]; revert a; simp [Fin.forall_fin_succ]; omega)
  have d1 := ld_values x2 1 (2 * k.val + 1) (by omega) (k0_off4 i k 1#32) ((k0_off4_eq i k 1).trans (by simp; omega)) (fun a => by
    rw [show k0_off4 i k 1#32 = _ from k0_off4_eq i k 1]; revert a; simp [Fin.forall_fin_succ]; omega)
  unfold blockScores
  rw [← q0, ← q1, ← a0, ← a1, ← b0, ← b1, ← c0, ← c1, ← d0, ← d1]
  unfold tripR_k0_t1
  unfold trip_k0_t1
  dsimp only
  sl_unfold_words
  simp only [View.readAt_eq_ld, harg3.read_unread, harg4.read_unread, harg5.read_unread]
  rfl

/-- THE LOOP: before trip `n` the heads have absorbed `2 n` blocks. -/
theorem loop_eq (n : ℕ) (hn : n ≤ (k0_t1_loop i).trips) :
    st_k0_t1 (F := F) Variants.none c none i arg3 harg3 arg4 harg4 arg5 harg5 arg6 harg6 (harg3.unread x0) (harg4.unread x1) (harg5.unread x2)
        (k0_pay41, k0_pay42, k0_pay43, k0_pay44, k0_pay45, k0_pay46) n
      = pack (full x0 x1 x2 0 (2 * n)) (full x0 x1 x2 1 (2 * n)) := by
  induction n with
  | zero => rw [st_k0_t1_zero]; rfl
  | succ n ih =>
      rw [st_k0_t1_succ (F := F) Variants.none c none i arg3 harg3 arg4 harg4 arg5 harg5 arg6 harg6 (harg3.unread x0) (harg4.unread x1)
        (harg5.unread x2) _ ⟨n, hn⟩, ih (Nat.le_of_lt hn), trip_eq]
      rfl

/-- Both loops together. -/
theorem loops_eq (w : BitVec 32) :
    st_k0_t2 (F := F) Variants.none c none i arg3 harg3 arg4 harg4 arg5 harg5 arg6 harg6 w (harg3.unread x0) (harg4.unread x1) (harg5.unread x2)
        (st_k0_t1 (F := F) Variants.none c none i arg3 harg3 arg4 harg4 arg5 harg5 arg6 harg6 (harg3.unread x0) (harg4.unread x1) (harg5.unread x2)
          (k0_pay41, k0_pay42, k0_pay43, k0_pay44, k0_pay45, k0_pay46) (k0_t1_loop i).trips) (k0_t2_loop i).trips
      = pack (full x0 x1 x2 0 (2 * (i 2).val)) (full x0 x1 x2 1 (2 * (i 2).val)) := by
  rw [trips_t2, st_k0_t2_zero, loop_eq _ _ _ _ _ _ _ _ _ _ _ _ _ _ le_rfl, trips_t1]

/-- THE BODY'S RESULT: the first 128 columns are head 0's quotient, the last head 1's. -/
theorem out_eq :
    out0_A_3 c i arg3 harg3 arg4 harg4 arg5 harg5 arg6 harg6 x0 x1 x2
      = View.canon [⟨Rect.unit ![0, 0, 128] ![1, 1024, 128] inb_S1x1024x256_S1x1024x128_0_0_128, quotient (final x0 x1 x2 1 (i 2).val)⟩,
          ⟨Rect.unit ![0, 0, 0] ![1, 1024, 128] inb_S1x1024x256_S1x1024x128_0_0_0, quotient (final x0 x1 x2 0 (i 2).val)⟩] := by
  have hi : (i 2).val < 4 := (i 2).isLt
  have q0 := ld_queries x0 0 ![0, 0, 0, 0] rfl inb_S1x2x1024x256_S1x1x1024x256_0_0_0_0
  have q1 := ld_queries x0 1 ![0, 1, 0, 0] rfl inb_S1x2x1024x256_S1x1x1024x256_0_1_0_0
  have a0 := ld_keys x1 0 (2 * (i 2).val) (by omega) (k0_off9 i 0#32) ((k0_off9_eq i 0).trans (by simp; omega)) (fun a => by
    rw [show k0_off9 i 0#32 = _ from k0_off9_eq i 0]; revert a; simp [Fin.forall_fin_succ]; omega)
  have a1 := ld_keys x1 0 (2 * (i 2).val + 1) (by omega) (k0_off9 i 1#32) ((k0_off9_eq i 1).trans (by simp; omega)) (fun a => by
    rw [show k0_off9 i 1#32 = _ from k0_off9_eq i 1]; revert a; simp [Fin.forall_fin_succ]; omega)
  have b0 := ld_values x2 0 (2 * (i 2).val) (by omega) (k0_off10 i 0#32) ((k0_off10_eq i 0).trans (by simp; omega)) (fun a => by
    rw [show k0_off10 i 0#32 = _ from k0_off10_eq i 0]; revert a; simp [Fin.forall_fin_succ]; omega)
  have b1 := ld_values x2 0 (2 * (i 2).val + 1) (by omega) (k0_off10 i 1#32) ((k0_off10_eq i 1).trans (by simp; omega)) (fun a => by
    rw [show k0_off10 i 1#32 = _ from k0_off10_eq i 1]; revert a; simp [Fin.forall_fin_succ]; omega)
  have c0 := ld_keys x1 1 (2 * (i 2).val) (by omega) (k0_off11 i 0#32) ((k0_off11_eq i 0).trans (by simp; omega)) (fun a => by
    rw [show k0_off11 i 0#32 = _ from k0_off11_eq i 0]; revert a; simp [Fin.forall_fin_succ]; omega)
  have c1 := ld_keys x1 1 (2 * (i 2).val + 1) (by omega) (k0_off11 i 1#32) ((k0_off11_eq i 1).trans (by simp; omega)) (fun a => by
    rw [show k0_off11 i 1#32 = _ from k0_off11_eq i 1]; revert a; simp [Fin.forall_fin_succ]; omega)
  have d0 := ld_values x2 1 (2 * (i 2).val) (by omega) (k0_off12 i 0#32) ((k0_off12_eq i 0).trans (by simp; omega)) (fun a => by
    rw [show k0_off12 i 0#32 = _ from k0_off12_eq i 0]; revert a; simp [Fin.forall_fin_succ]; omega)
  have d1 := ld_values x2 1 (2 * (i 2).val + 1) (by omega) (k0_off12 i 1#32) ((k0_off12_eq i 1).trans (by simp; omega)) (fun a => by
    rw [show k0_off12 i 1#32 = _ from k0_off12_eq i 1]; revert a; simp [Fin.forall_fin_succ]; omega)
  have e := loops_eq (F := F) c i arg3 harg3 arg4 harg4 arg5 harg5 arg6 harg6 x0 x1 x2
    (Scalar.addi 0#32 (Scalar.muli (Scalar.divsi (Scalar.subi (BitVec.ofNat 32 (i 2).val) 0#32) 1#32) 1#32))
  have e0 : full x0 x1 x2 0 (2 * (i 2).val) = ((pack (full x0 x1 x2 0 (2 * (i 2).val)) (full x0 x1 x2 1 (2 * (i 2).val))).1,
    (pack (full x0 x1 x2 0 (2 * (i 2).val)) (full x0 x1 x2 1 (2 * (i 2).val))).2.1,
    (pack (full x0 x1 x2 0 (2 * (i 2).val)) (full x0 x1 x2 1 (2 * (i 2).val))).2.2.1) := rfl
  have e1 : full x0 x1 x2 1 (2 * (i 2).val) = (pack (full x0 x1 x2 0 (2 * (i 2).val)) (full x0 x1 x2 1 (2 * (i 2).val))).2.2.2 := rfl
  rw [← e] at e0 e1
  unfold final blockScores
  rw [e0, e1, ← q0, ← q1, ← a0, ← a1, ← b0, ← b1, ← c0, ← c1, ← d0, ← d1]
  unfold out0_A_3
  rw [View.read_writes_eq_canon _ _ _ (cover0_A_3 c i arg3 harg3 arg4 harg4 arg5 harg5 arg6 harg6 x0 x1 x2)]
  unfold kernelRun0_A
  dsimp only
  sl_unfold_words
  simp only [View.readAt_eq_ld, harg3.read_unread, harg4.read_unread, harg5.read_unread]
  rfl

end body
end Cert.KernelIdeal.Attention

end
-- ==== Proof.OnlineSoftmax.lean ====
/-
  Softmax over a growing prefix of a row, on the extended reals: the numbers that a streaming softmax carries
  (maximum, denominator, numerator), what one block of further scores does to them, and the quotient at the end.
-/
module

public import Idealize.ShloMosaic.PureOps.Ideal.Laws

@[expose] public section

noncomputable section

namespace Cert.OnlineSoftmax

open Idealize.ShloMosaic Finset

/-- `2 ^ x` is never negative. -/
theorem exp2_nonneg (x : EReal) : 0 ≤ Ideal.exp2 x := by
  induction x with
  | bot => simp
  | top => simp
  | coe r => rw [Ideal.exp2_coe]; exact_mod_cast (Real.rpow_nonneg (by norm_num) r)

/-- The exponential of a difference that is not positive is a real number. -/
theorem exp2_sub_ne_top {x y : EReal} (h : x ≤ y) : Ideal.exp2 (x - y) ≠ ⊤ := by
  induction x with
  | bot => rw [EReal.bot_sub]; simp
  | top => rw [top_le_iff.mp h, EReal.sub_top]; simp
  | coe r =>
    induction y with
    | bot => simp at h
    | top => rw [EReal.sub_top]; simp
    | coe t => rw [← EReal.coe_sub, Ideal.exp2_coe]; exact EReal.coe_ne_top _

/-- Moving the reference point of an exponential from `m` to a later maximum `m'`. -/
theorem exp2_shift {s m m' : EReal} (h : s ≤ m) (h' : m ≤ m') :
    Ideal.exp2 (m - m') * Ideal.exp2 (s - m) = Ideal.exp2 (s - m') := by
  induction s with
  | bot => simp [EReal.bot_sub]
  | top =>
    obtain rfl : m = ⊤ := top_le_iff.mp h
    simp [top_le_iff.mp h', EReal.sub_top]
  | coe s =>
    induction m with
    | bot => simp at h
    | top => simp [top_le_iff.mp h', EReal.sub_top]
    | coe m =>
      induction m' with
      | bot => simp at h'
      | top => simp [EReal.sub_top]
      | coe m' =>
        simp only [← EReal.coe_sub, Ideal.exp2_coe, ← EReal.coe_mul]
        congr 1
        show (2 : ℝ) ^ (m - m') * (2 : ℝ) ^ (s - m) = (2 : ℝ) ^ (s - m')
        rw [← Real.rpow_add (by norm_num)]; congr 1; ring

/-- A real factor that is not negative goes into a sum of extended reals. -/
theorem mul_sum {ι : Type} (A : Finset ι) (f : ι → EReal) {a : EReal} (h0 : 0 ≤ a) (ht : a ≠ ⊤) :
    a * ∑ i ∈ A, f i = ∑ i ∈ A, a * f i := by
  classical
  induction A using Finset.induction_on with
  | empty => simp
  | insert i A hi ih => rw [sum_insert hi, sum_insert hi, EReal.left_distrib_of_nonneg_of_ne_top h0 ht, ih]

/-- The largest of the first `n` scores (`⊥` of none). -/
def top (s : ℕ → EReal) (n : ℕ) : EReal := (range n).sup s

/-- What a streaming softmax carries after `n` scores `s` with the values `v`. -/
structure Holds (s v : ℕ → EReal) (n : ℕ) (m l a : EReal) : Prop where
  max : m = top s n
  den : l = ∑ j ∈ range n, Ideal.exp2 (s j - top s n)
  num : a = ∑ j ∈ range n, Ideal.exp2 (s j - top s n) * v j

/-- Before the first score: the maximum `⊥`, the two sums zero. -/
theorem Holds.zero (s v : ℕ → EReal) : Holds s v 0 ⊥ 0 0 := ⟨by simp [top], by simp, by simp⟩

theorem le_top (s : ℕ → EReal) {n j : ℕ} (h : j < n) : s j ≤ top s n := le_sup (mem_range.mpr h)

theorem top_add (s : ℕ → EReal) (n b : ℕ) :
    top s (n + b) = Max.max (top s n) ((univ : Finset (Fin b)).sup fun k => s (n + k)) := by
  apply le_antisymm
  · refine Finset.sup_le fun j hj => ?_
    have hj := mem_range.mp hj
    by_cases h : j < n
    · exact le_max_of_le_left (le_top s h)
    · refine le_max_of_le_right ?_
      have := le_sup (f := fun k : Fin b => s (n + k)) (mem_univ ⟨j - n, by omega⟩)
      simpa [Nat.add_sub_cancel' (not_lt.mp h)] using this
  · refine max_le (Finset.sup_le fun j hj => le_top s (by have := mem_range.mp hj; omega)) (Finset.sup_le fun k _ => le_top s (by omega))

/-- A sum over `n + b` numbers is the sum over the first `n` and the sum over the block of the last `b`. -/
theorem sum_add (f : ℕ → EReal) (n b : ℕ) : ∑ j ∈ range (n + b), f j = ∑ j ∈ range n, f j + ∑ k : Fin b, f (n + k) := by
  rw [sum_range_add, Finset.sum_range fun k => f (n + k)]

/-- ONE BLOCK of `b` further scores: the old sums are rescaled to the new maximum and the block's terms are added. -/
theorem Holds.step {s v : ℕ → EReal} {n : ℕ} {m l a : EReal} (h : Holds s v n m l a) (b : ℕ) {m' : EReal}
    (hm : m' = Max.max m ((univ : Finset (Fin b)).sup fun k => s (n + k))) :
    Holds s v (n + b) m'
      (Ideal.exp2 (m - m') * l + ∑ k : Fin b, Ideal.exp2 (s (n + k) - m'))
      (Ideal.exp2 (m - m') * a + ∑ k : Fin b, Ideal.exp2 (s (n + k) - m') * v (n + k)) := by
  have hm' : m' = top s (n + b) := by rw [hm, h.max, top_add]
  have hle : top s n ≤ m' := by rw [hm, h.max]; exact le_max_left _ _
  refine ⟨hm', ?_, ?_⟩
  · rw [← hm', sum_add, h.den, h.max, mul_sum _ _ (exp2_nonneg _) (exp2_sub_ne_top hle)]
    congr 1
    exact sum_congr rfl fun j hj => exp2_shift (le_top s (mem_range.mp hj)) hle
  · rw [← hm', sum_add, h.num, h.max, mul_sum _ _ (exp2_nonneg _) (exp2_sub_ne_top hle)]
    congr 1
    exact sum_congr rfl fun j hj => by rw [← mul_assoc, exp2_shift (le_top s (mem_range.mp hj)) hle]

/-- Scores `⊥` (those that a mask takes away) after the first `n` change nothing. -/
theorem Holds.extend {s v : ℕ → EReal} {n N : ℕ} {m l a : EReal} (h : Holds s v n m l a) (hN : n ≤ N)
    (hs : ∀ j, n ≤ j → s j = ⊥) : Holds s v N m l a := by
  obtain ⟨b, rfl⟩ := Nat.exists_eq_add_of_le hN
  have ht : top s (n + b) = top s n := by
    rw [top_add]
    refine max_eq_left (Finset.sup_le fun k _ => ?_)
    rw [hs _ (by omega)]; exact bot_le
  refine ⟨by rw [ht, h.max], ?_, ?_⟩
  · rw [ht, sum_add, h.den, show ∑ k : Fin b, Ideal.exp2 (s (n + k) - top s n) = 0 from
      sum_eq_zero fun k _ => by rw [hs _ (by omega), EReal.bot_sub, Ideal.exp2_bot], add_zero]
  · rw [ht, sum_add, h.num, show ∑ k : Fin b, Ideal.exp2 (s (n + k) - top s n) * v (n + k) = 0 from
      sum_eq_zero fun k _ => by rw [hs _ (by omega), EReal.bot_sub, Ideal.exp2_bot, zero_mul], add_zero]

/-- A change of base: with scores `s = t / log 2`, the powers of two are the powers of e. -/
theorem exp2_sub_eq_exp_sub {t : EReal} {T : ℝ} (ht : t ≠ ⊤) :
    Ideal.exp2 (t * ((Real.log 2)⁻¹ : ℝ) - (T : EReal) * ((Real.log 2)⁻¹ : ℝ)) = Ideal.exp (t - T) := by
  have h2 : Real.log 2 ≠ 0 := (Real.log_pos (by norm_num)).ne'
  have hp : (0 : ℝ) < (Real.log 2)⁻¹ := inv_pos.mpr (Real.log_pos (by norm_num))
  induction t with
  | bot => rw [EReal.bot_mul_coe_of_pos hp, EReal.bot_sub, EReal.bot_sub]; simp
  | top => exact absurd rfl ht
  | coe t =>
    simp only [← EReal.coe_sub, ← EReal.coe_mul, Ideal.exp2_coe, Ideal.exp_coe]
    congr 1
    show (2 : ℝ) ^ (t * (Real.log 2)⁻¹ - T * (Real.log 2)⁻¹) = Real.exp (t - T)
    rw [Real.rpow_def_of_pos (by norm_num)]
    congr 1; field_simp

/-- The largest of `n` scores under the change of base. -/
theorem top_mul (t : ℕ → EReal) (n : ℕ) {c : ℝ} (hc : 0 < c) : top (fun j => t j * (c : EReal)) n = top t n * c := by
  have hmono : Monotone fun x : EReal => x * (c : EReal) := fun x y h =>
    mul_le_mul_of_nonneg_right h (by exact_mod_cast hc.le)
  unfold top
  rw [Finset.comp_sup_eq_sup_comp_of_is_total (fun x : EReal => x * (c : EReal)) hmono (EReal.bot_mul_coe_of_pos hc)]
  rfl

/-- The exponential of a score below `⊤`, from a real reference point, is a real number, positive unless the score is `⊥`. -/
theorem exp_sub_real {x : EReal} (T : ℝ) (hx : x ≠ ⊤) : ∃ r : ℝ, 0 ≤ r ∧ Ideal.exp (x - T) = r ∧ (x ≠ ⊥ → 0 < r) := by
  induction x with
  | bot => exact ⟨0, le_rfl, by rw [EReal.bot_sub]; simp, fun h => absurd rfl h⟩
  | top => exact absurd rfl hx
  | coe x => exact ⟨Real.exp (x - T), (Real.exp_pos _).le, by rw [← EReal.coe_sub, Ideal.exp_coe], fun _ => Real.exp_pos _⟩

/-- THE QUOTIENT: what a streaming softmax ends with is the softmax's weighted sum, the weights divided one by one. The
    scores `t` are finite or `⊥`, and the first of them is finite. -/
theorem Holds.quotient {t v : ℕ → EReal} {n : ℕ} {m l a : EReal} (hn : 0 < n)
    (h : Holds (fun j => t j * ((Real.log 2)⁻¹ : ℝ)) v n m l a) (ht : ∀ j, t j ≠ ⊤) (h0 : t 0 ≠ ⊥) :
    Ideal.div a l = ∑ j ∈ range n, v j * Ideal.div (Ideal.exp (t j - top t n)) (∑ i ∈ range n, Ideal.exp (t i - top t n)) := by
  have hp : (0 : ℝ) < (Real.log 2)⁻¹ := inv_pos.mpr (Real.log_pos (by norm_num))
  -- the row's maximum is a real number
  have hT : ∃ T : ℝ, top t n = T := by
    have hlow : ⊥ < top t n := lt_of_lt_of_le (bot_lt_iff_ne_bot.mpr h0) (le_top t hn)
    have hup : top t n < ⊤ := (Finset.sup_lt_iff bot_lt_top).mpr fun j _ => lt_top_iff_ne_top.mpr (ht j)
    exact ⟨(top t n).toReal, (EReal.coe_toReal hup.ne hlow.ne').symm⟩
  obtain ⟨T, hT⟩ := hT
  have hw : ∀ j, Ideal.exp2 (t j * ((Real.log 2)⁻¹ : ℝ) - top (fun j => t j * ((Real.log 2)⁻¹ : ℝ)) n) = Ideal.exp (t j - T) := fun j => by
    rw [top_mul t n hp, hT, exp2_sub_eq_exp_sub (ht j)]
  -- each weight is a real number that is not negative, the first positive: the denominator is a positive real number
  choose r hr0 hr hpos using fun j => exp_sub_real T (ht j)
  have hr1 : 0 < r 0 := hpos 0 h0
  have hsum : ∑ i ∈ range n, Ideal.exp (t i - T) = ((∑ i ∈ range n, r i : ℝ) : EReal) := by
    rw [sum_congr rfl fun i _ => hr i]
    induction (range n) using Finset.induction_on with
    | empty => simp
    | insert i A hi ih => rw [sum_insert hi, sum_insert hi, ih, EReal.coe_add]
  have hL : 0 < ∑ i ∈ range n, r i :=
    lt_of_lt_of_le hr1 (single_le_sum (f := r) (fun i _ => hr0 i) (mem_range.mpr hn))
  rw [hT, hsum, h.den, h.num, sum_congr rfl fun j _ => hw j, hsum, Ideal.div_coe hL.ne', mul_comm,
    mul_sum _ _ (by exact_mod_cast (one_div_pos.mpr hL).le) (EReal.coe_ne_top _)]
  refine sum_congr rfl fun j _ => ?_
  rw [hw j, Ideal.div_coe hL.ne', ← mul_assoc, mul_comm (((1 / ∑ i ∈ range n, r i : ℝ)) : EReal), mul_comm]

end Cert.OnlineSoftmax

end
-- ==== Proof.Row.lean ====
/-
  One row of the body over the extended reals: after a block the state of a row is the streaming softmax of the keys seen.
-/
module

public import proofs.«01_k».proof.Proof.Body
public import proofs.«01_k».proof.Proof.OnlineSoftmax

@[expose] public section

set_option maxRecDepth 16384

noncomputable section

namespace Cert.KernelIdeal.Attention

open Cert.KernelIdeal Cert.KernelIdeal.Gen Idealize.ShloMosaic Idealize.ShloMosaic.TcCoe Idealize.SL.Sem Cert.OnlineSoftmax

/-- Row `r`, column `e` of a state holds the streaming softmax of the first `n` scores `s` and values `v`. -/
def RowHolds (s v : ℕ → EReal) (n : ℕ) (C : Carry Ideal) (r : Fin 1024) (e : Fin 128) : Prop :=
  Holds s v n (C.1 (ix2 r 0)) (C.2.1 (ix2 r 0)) (C.2.2 (ix2 r e))

/-- A block whose scores and values go on with `s` and `v` takes the row from `n` keys to `n + 512`. -/
theorem absorb_row {s v : ℕ → EReal} {n : ℕ} {C : Carry Ideal} {r : Fin 1024} {e : Fin 128} (S : FVec Ideal S1024x512 .f32)
    (V : Vec Ideal S1x1x512x128 .bf16) (h : RowHolds s v n C r e) (hs : ∀ k : Fin 512, S (ix2 r k) = s (n + k.val))
    (hv : ∀ k : Fin 512, V (ix4 0 0 k e) = v (n + k.val)) : RowHolds s v (n + 512) (absorb S V C) r e := by
  have hm : newMax S C.1 (ix2 r 0) = max (C.1 (ix2 r 0)) (Finset.univ.sup fun k : Fin 512 => s (n + k.val)) := by
    pointwise [newMax]
    simp only [hs]
    rw [show Ideal.ofBits .f32 0xFF800000#32 = (⊥ : EReal) by simp [Ideal.ofBits, Ideal.ieee], Finset.sup_def]
    rfl
  have hw : ∀ k : Fin 512, weights S C.1 (ix2 r k) = Ideal.exp2 (s (n + k.val) - newMax S C.1 (ix2 r 0)) := fun k => by
    pointwise [weights, hs]
    rfl
  have ha : rescale S C.1 (ix2 r 0) = Ideal.exp2 (C.1 (ix2 r 0) - newMax S C.1 (ix2 r 0)) := by
    pointwise [rescale]
    rfl
  have := h.step 512 hm
  unfold RowHolds absorb
  dsimp only
  convert this using 1
  · pointwise [hw, ha]
  · pointwise [hw, ha, hv]

/-- Key `n`'s score for row `r` of head `h`. -/
def sc (x0 : Vec Ideal S1x2x1024x256 .bf16) (x1 : Vec Ideal S1x2x4096x256 .bf16) (h : Fin 2) (r : Fin 1024) (n : ℕ) : EReal :=
  ∑ d : Fin 256, x0 (ix4 0 h r d) * x1 (ix4 0 h ⟨n % 4096, Nat.mod_lt _ (by norm_num)⟩ d)

/-- Key `n`'s value in column `e` of head `h`. -/
def vl (x2 : Vec Ideal S1x2x4096x128 .bf16) (h : Fin 2) (e : Fin 128) (n : ℕ) : EReal :=
  x2 (ix4 0 h ⟨n % 4096, Nat.mod_lt _ (by norm_num)⟩ e)

/-- The scores that position `p` sees: those of the keys up to its own. -/
def seen (p : ℕ) (s : ℕ → EReal) (n : ℕ) : EReal := if n ≤ p then s n else ⊥

variable (x0 : Vec Ideal S1x2x1024x256 .bf16) (x1 : Vec Ideal S1x2x4096x256 .bf16) (x2 : Vec Ideal S1x2x4096x128 .bf16)

theorem blockScores_apply (h : Fin 2) (b : ℕ) (r : Fin 1024) (k : Fin 512) :
    blockScores x0 x1 h b (ix2 r k) = sc x0 x1 h r (512 * b + k.val) := by
  pointwise [blockScores, scores, queries, keys, sc]

theorem values_apply (h : Fin 2) (b : ℕ) (k : Fin 512) (e : Fin 128) :
    values x2 h b (ix4 0 0 k e) = vl x2 h e (512 * b + k.val) := rfl

/-- The named mask is `⊥`. -/
theorem mask_eq : (Named.named (F := Ideal) κ "mask" 0xF149F2CA#32 : Ideal .f32) = (⊥ : EReal) :=
  IdealRules.named_const.ideal_named_scalar _ _ _ _ rfl

theorem masked_apply (d : Fin 2) (S : FVec Ideal S1024x512 .f32) (r : Fin 1024) (k : Fin 512) :
    masked (BitVec.ofNat 32 (512 * d.val)) S (ix2 r k) = if 512 * d.val + k.val ≤ r.val then S (ix2 r k) else ⊥ := by
  pointwise [masked, mask_eq]
  have e : IntOp.addi (BitVec.ofNat 32 k.val) (BitVec.ofNat 32 (512 * d.val)) = BitVec.ofNat 32 (512 * d.val + k.val) := by
    apply BitVec.eq_of_toNat_eq
    simp [IntOp.addi, BitVec.toNat_add, BitVec.toNat_ofNat, Nat.add_comm]
  rw [e, WordCmp.cmpi_sge_ofNat (by omega) (by omega)]
  by_cases h : 512 * d.val + k.val ≤ r.val <;> simp [h, Scalar.select]

theorem start_row (s v : ℕ → EReal) (r : Fin 1024) (e : Fin 128) : RowHolds s v 0 start r e := by
  unfold RowHolds start k0_pay41 k0_pay42 k0_pay43
  pointwise [mask_eq]
  exact Holds.zero s v

/-- Before the diagonal every key of a block is seen, so the state after `b` unmasked blocks is that of the seen scores. -/
theorem full_row (h : Fin 2) (r : Fin 1024) (e : Fin 128) (p : ℕ) (b : ℕ) (hb : 512 * b ≤ p + 1) :
    RowHolds (seen p (sc x0 x1 h r)) (vl x2 h e) (512 * b) (full x0 x1 x2 h b) r e := by
  induction b with
  | zero => exact start_row _ _ r e
  | succ b ih =>
      refine absorb_row _ _ (ih (by omega)) (fun k => ?_) fun k => values_apply x2 h b k e
      show _ = seen p (sc x0 x1 h r) (512 * b + k.val)
      rw [blockScores_apply, seen, if_pos (by omega)]

/-- THE ROW AT THE END: the streaming softmax, of 1024 keys more than stand in front of the block of queries, of the scores
    that the row's own position sees. -/
theorem final_row (h : Fin 2) (n : ℕ) (r : Fin 1024) (e : Fin 128) :
    RowHolds (seen (1024 * n + r.val) (sc x0 x1 h r)) (vl x2 h e) (1024 * (n + 1)) (final x0 x1 x2 h n) r e := by
  have h0 := full_row x0 x1 x2 h r e (1024 * n + r.val) (2 * n) (by omega)
  have h1 := absorb_row (masked 0#32 (blockScores x0 x1 h (2 * n))) (values x2 h (2 * n)) h0
    (fun k => by
      refine (masked_apply 0 _ r k).trans ?_
      rw [blockScores_apply, seen]
      simp only [Fin.val_zero, Nat.mul_zero, Nat.zero_add]
      exact if_congr (by omega) rfl rfl) fun k => values_apply x2 h _ k e
  have h2 := absorb_row (masked 512#32 (blockScores x0 x1 h (2 * n + 1))) (values x2 h (2 * n + 1)) h1
    (fun k => by
      refine (masked_apply 1 _ r k).trans ?_
      rw [blockScores_apply, seen]
      simp only [Fin.val_one, Nat.mul_one]
      rw [show 512 * (2 * n + 1) + k.val = 512 * (2 * n) + 512 + k.val by omega]
      exact if_congr (by omega) rfl rfl) fun k => by
      rw [values_apply, show 512 * (2 * n + 1) + k.val = 512 * (2 * n) + 512 + k.val by omega]
  rwa [show 512 * (2 * n) + 512 + 512 = 1024 * (n + 1) by omega] at h2

/-- … and over all 4096 keys: those further on are not seen. -/
theorem final_row_all (h : Fin 2) (n : ℕ) (hn : n < 4) (r : Fin 1024) (e : Fin 128) :
    RowHolds (seen (1024 * n + r.val) (sc x0 x1 h r)) (vl x2 h e) 4096 (final x0 x1 x2 h n) r e :=
  (final_row x0 x1 x2 h n r e).extend (by omega) fun j hj => if_neg (by omega)

end Cert.KernelIdeal.Attention

end
-- ==== Proof.Prep.lean ====
/-
  The blocks that the body reads, as entries of the arguments: heads in front of positions, the queries scaled, queries and
  keys padded by zeros from 192 to 256 columns.
-/
module

public import proofs.«01_k».proof.Proof.Row
public import Idealize.ShloMosaic.Lib.Claim
public import Idealize.ShloMosaic.Lib.Pipeline.ValueKit.Point

@[expose] public section

set_option maxRecDepth 16384

noncomputable section

namespace Cert.KernelIdeal.Attention

open Cert.KernelIdeal Cert.KernelIdeal.Gen Idealize.ShloMosaic Idealize.ShloMosaic.TcCoe Idealize.SL.Sem Cert.OnlineSoftmax

variable (m : (ℓ : Loc nD τ sig) → Buf (Elt Ideal) ℓ) (c : Dev nD)

theorem index0 : ∀ t : Fin cfg0.N, win0_0.index t = ![(grid0.coords t 0).val, (grid0.coords t 1).val, (grid0.coords t 2).val, 0] := by decide +kernel

theorem index1 : ∀ t : Fin cfg0.N, win0_1.index t = ![(grid0.coords t 0).val, (grid0.coords t 1).val, 0, 0] := by decide +kernel

theorem index2 : ∀ t : Fin cfg0.N, win0_2.index t = ![(grid0.coords t 0).val, (grid0.coords t 1).val, 0, 0] := by decide +kernel

theorem index3 : ∀ t : Fin cfg0.N, win0_3.index t = ![(grid0.coords t 0).val, (grid0.coords t 2).val, (grid0.coords t 1).val] := by decide +kernel

/-- The head of a point's first or second half. -/
def head (t : Fin cfg0.N) (h : Fin 2) : Fin 8 := ⟨2 * (grid0.coords t 1).val + h.val, by have : (grid0.coords t 1).val < 4 := (grid0.coords t 1).isLt; omega⟩

/-- `log₂ e` as the host computes it. -/
def log2e : FVec Ideal S_ .f32 := Host.divf (constant S_ .f32 0x3F800000#32) (Host.log (constant S_ .f32 0x40000000#32))

/-- The queries in the kernel's layout, scaled; the keys; the values. -/
def prepQ (a : FVec Ideal S2x4096x8x192 .f32) : FVec Ideal S2x8x4096x256 .bf16 :=
  pad S2x8x4096x256 ![0, 0, 0, 0] ![0, 0, 0, 64] ![0, 0, 0, 0]
    (truncf .bf16 (mulf (mulf (transpose S2x8x4096x192 [0, 2, 1, 3] a transposes_S2x4096x8x192_S2x8x4096x192_0_2_1_3)
      (broadcastInDim S2x8x4096x192 ![] bcast_S_S2x8x4096x192 (constant S_ .f32 0x3D93CD3A#32)))
      (broadcastInDim S2x8x4096x192 ![] bcast_S_S2x8x4096x192 log2e)) bitsLt_bf16_f32)
    (sitofp .bf16 (constantI S_ 32 0#32)) pads_S2x8x4096x192_S2x8x4096x256_000_000_000_0640 h_S_

def prepK (a : FVec Ideal S2x4096x8x192 .f32) : FVec Ideal S2x8x4096x256 .bf16 :=
  pad S2x8x4096x256 ![0, 0, 0, 0] ![0, 0, 0, 64] ![0, 0, 0, 0]
    (truncf .bf16 (transpose S2x8x4096x192 [0, 2, 1, 3] a transposes_S2x4096x8x192_S2x8x4096x192_0_2_1_3) bitsLt_bf16_f32)
    (sitofp .bf16 (constantI S_ 32 0#32)) pads_S2x8x4096x192_S2x8x4096x256_000_000_000_0640 h_S_

def prepV (a : FVec Ideal S2x4096x8x128 .f32) : FVec Ideal S2x8x4096x128 .bf16 :=
  truncf .bf16 (transpose S2x8x4096x128 [0, 2, 1, 3] a transposes_S2x4096x8x128_S2x8x4096x128_0_2_1_3) bitsLt_bf16_f32

theorem entry_queries : V m c main_v8 = prepQ (m ((c : Thread nD τ).loc main_arg0)) := by
  unfold V
  simp only [List.flatten_cons, List.flatten_nil, List.append_nil, List.cons_append, List.nil_append, hostOps0, hostOps0_1, hostOps0_2,
    hostOps0_3, hostOps0_4]
  after_results
  rfl

theorem entry_keys : V m c main_v11 = prepK (m ((c : Thread nD τ).loc main_arg1)) := by
  unfold V
  simp only [List.flatten_cons, List.flatten_nil, List.append_nil, List.cons_append, List.nil_append, hostOps0, hostOps0_1, hostOps0_2,
    hostOps0_3, hostOps0_4]
  after_results
  rfl

theorem entry_values : V m c main_v13 = prepV (m ((c : Thread nD τ).loc main_arg2)) := by
  unfold V
  simp only [List.flatten_cons, List.flatten_nil, List.append_nil, List.cons_append, List.nil_append, hostOps0, hostOps0_1, hostOps0_2,
    hostOps0_3, hostOps0_4]
  after_results
  rfl

/-- The literals of the host program: the queries' scale and `1 / log 2`, both real. -/
theorem log2e_apply (j) : log2e j = (((Real.log 2)⁻¹ : ℝ) : EReal) := by
  pointwise [log2e]
  rw [show Ideal.ofBits .f32 0x40000000#32 = ((2 : ℝ) : EReal) by
      simp [Ideal.ofBits, Ideal.ieee]; rw [← EReal.coe_mul]; norm_num,
    Ideal.log_coe, if_neg (by norm_num),
    Ideal.div_coe (Real.log_pos (by norm_num)).ne', one_mul, one_div]

/-- The padding value is zero. -/
theorem zero_int : FloatOps.sitofp (F := Ideal) .bf16 0#32 = (0 : EReal) := by
  show (((0#32 : BitVec 32).toInt : ℝ) : EReal) = 0
  simp

theorem prepV_apply (a : FVec Ideal S2x4096x8x128 .f32) (b : Fin 2) (g : Fin 8) (n : Fin 4096) (e : Fin 128) :
    prepV a (ix4 b g n e) = a (ix4 b n g e) := by
  pointwise [prepV]

theorem prepK_apply (a : FVec Ideal S2x4096x8x192 .f32) (b : Fin 2) (g : Fin 8) (n : Fin 4096) (d : Fin 256) :
    prepK a (ix4 b g n d) = if h : d.val < 192 then a (ix4 b n g ⟨d.val, h⟩) else (0 : EReal) := by
  pointwise [prepK]
  simp only [zero_int]

theorem prepQ_apply (a : FVec Ideal S2x4096x8x192 .f32) (b : Fin 2) (g : Fin 8) (n : Fin 4096) (d : Fin 256) :
    prepQ a (ix4 b g n d) = if h : d.val < 192 then a (ix4 b n g ⟨d.val, h⟩) * Ideal.ofBits .f32 0x3D93CD3A#32 * (((Real.log 2)⁻¹ : ℝ) : EReal) else (0 : EReal) := by
  pointwise [prepQ, log2e_apply]
  simp only [zero_int]

theorem queries_block (t : Fin cfg0.N) (h : Fin 2) (r : Fin 1024) (d : Fin 256) :
    (iblk m c 0 t : Vec Ideal S1x2x1024x256 .bf16) (ix4 0 h r d)
      = prepQ (m ((c : Thread nD τ).loc main_arg0)) (ix4 (grid0.coords t 0) (head t h)
          ⟨1024 * (grid0.coords t 2).val + r.val, by have : (grid0.coords t 2).val < 4 := (grid0.coords t 2).isLt; omega⟩ d) := by
  refine (congrFun (entry_queries m c) _).trans ?_
  blk_ext [head, index0 t]

theorem keys_block (t : Fin cfg0.N) (h : Fin 2) (n : Fin 4096) (d : Fin 256) :
    (iblk m c 1 t : Vec Ideal S1x2x4096x256 .bf16) (ix4 0 h n d)
      = prepK (m ((c : Thread nD τ).loc main_arg1)) (ix4 (grid0.coords t 0) (head t h) n d) := by
  refine (congrFun (entry_keys m c) _).trans ?_
  blk_ext [head, index1 t]

theorem values_block (t : Fin cfg0.N) (h : Fin 2) (n : Fin 4096) (e : Fin 128) :
    (iblk m c 2 t : Vec Ideal S1x2x4096x128 .bf16) (ix4 0 h n e)
      = prepV (m ((c : Thread nD τ).loc main_arg2)) (ix4 (grid0.coords t 0) (head t h) n e) := by
  refine (congrFun (entry_values m c) _).trans ?_
  blk_ext [head, index2 t]

end Cert.KernelIdeal.Attention

end
-- ==== Proof.Ref.lean ====
/-
  The reference at an index: scaled scores, the causal mask, a softmax over the keys, the weighted sum of the values.
-/
module

public import proofs.«01_k».proof.Proof.Gen.ReferenceIdeal.Run
public import proofs.«01_k».proof.Proof.OnlineSoftmax
public import Idealize.ShloMosaic.Lib.Pointwise
public import Idealize.ShloMosaic.Lib.WordCmp

@[expose] public section

set_option maxRecDepth 16384

noncomputable section

namespace Cert.ReferenceIdeal.Attention

open Cert.ReferenceIdeal Cert.ReferenceIdeal.Gen Idealize.ShloMosaic Idealize.ShloMosaic.TcCoe Idealize.SL.Sem Cert.OnlineSoftmax

variable (q k : FVec Ideal S2x4096x8x192 .f32) (v : FVec Ideal S2x4096x8x128 .f32)

/-- The scores, those of later keys replaced by `⊥`. -/
def scores : FVec Ideal S2x8x4096x4096 .f32 :=
  select (broadcastInDim S2x8x4096x4096 ![2, 3] bcast_S4096x4096_S2x8x4096x4096_2_3
      (cmpi .sge (broadcastInDim S4096x4096 ![0, 1] bcast_S4096x1_S4096x4096_0_1 (broadcastInDim S4096x1 ![0] bcast_S4096_S4096x1_0 (iotaInDim S4096 32 0)))
        (broadcastInDim S4096x4096 ![0, 1] bcast_S1x4096_S4096x4096_0_1 (broadcastInDim S1x4096 ![1] bcast_S4096_S1x4096_1 (iotaInDim S4096 32 0)))))
    (mulf (Host.dotGeneral dot_S2x4096x8x192_S2x4096x8x192_S2x8x4096x4096_3_3_1_1_02_02 none q k)
      (broadcastInDim S2x8x4096x4096 ![] bcast_S_S2x8x4096x4096 (constant S_ .f32 0x3D93CD3A#32)))
    (broadcastInDim S2x8x4096x4096 ![] bcast_S_S2x8x4096x4096 (id (constant S_ .f32 0xFF800000#32)))

/-- The row maxima. -/
def maxima : FVec Ideal S2x8x4096 .f32 :=
  maximumf (broadcastInDim S2x8x4096 ![] bcast_S_S2x8x4096 (constant S_ .f32 0xFF800000#32))
    (Host.reduce FloatOps.maximumf (scores q k) (constant S_ .f32 0xFF800000#32) reducesTo_S2x8x4096x4096_S2x8x4096_d3 h_S_)

/-- The weights before they are divided. -/
def weights : FVec Ideal S2x8x4096x4096 .f32 :=
  Host.exp (subf (scores q k) (broadcastInDim S2x8x4096x4096 ![0, 1, 2, 3] bcast_S2x8x4096x1_S2x8x4096x4096_0_1_2_3
    (broadcastInDim S2x8x4096x1 ![0, 1, 2] bcast_S2x8x4096_S2x8x4096x1_0_1_2 (maxima q k))))

/-- The softmax. -/
def softmax : FVec Ideal S2x8x4096x4096 .f32 :=
  Host.divf (weights q k) (broadcastInDim S2x8x4096x4096 ![0, 1, 2, 3] bcast_S2x8x4096x1_S2x8x4096x4096_0_1_2_3
    (broadcastInDim S2x8x4096x1 ![0, 1, 2] bcast_S2x8x4096_S2x8x4096x1_0_1_2
      (Host.reduceAdd (weights q k) (constant S_ .f32 0x00000000#32) reducesTo_S2x8x4096x4096_S2x8x4096_d3 h_S_)))

/-- The reference's result. -/
def result : FVec Ideal S2x4096x1024 .bf16 :=
  truncf .bf16 (shapeCast S2x4096x1024 (transpose S2x4096x8x128 [0, 3, 1, 2]
    (Host.dotGeneral dot_S2x4096x8x128_S2x8x4096x4096_S2x8x128x4096_1_3_3_2_02_01 none v (softmax q k)) transposes_S2x8x128x4096_S2x4096x8x128_0_3_1_2)
    shapeCasts_S2x4096x8x128_S2x4096x1024) bitsLt_bf16_f32

theorem res_eq (m : (ℓ : Loc nD τ sig) → Buf (Elt Ideal) ℓ) (c : Dev nD) :
    Cert.ReferenceIdeal.Value.res_main_v24 m c = result (m ((c.tc : Thread nD τ).loc main_arg0)) (m ((c.tc : Thread nD τ).loc main_arg1)) (m ((c.tc : Thread nD τ).loc main_arg2)) := rfl

theorem lastAxis : S2x8x4096x4096.Reduces [3] S2x8x4096 := by decide

theorem lift_lastAxis (b : Fin 2) (g : Fin 8) (p n : Fin 4096) : lastAxis.lift (ix3 b g p) n = ix4 b g p n := by
  funext a
  fin_cases a <;> rfl

/-- A row maximum is the supremum over the row. -/
theorem maxRow (X : FVec Ideal S2x8x4096x4096 .f32) (b : Fin 2) (g : Fin 8) (p : Fin 4096) :
    Host.reduce FloatOps.maximumf X (constant S_ .f32 0xFF800000#32) reducesTo_S2x8x4096x4096_S2x8x4096_d3 h_S_ (ix3 b g p)
      = Finset.univ.sup fun n : Fin 4096 => X (ix4 b g p n) := by
  rw [Host.reduce_eq_fold_single _ _ _ _ lastAxis]
  rw [Finset.sup_def]
  have h : (X ∘ lastAxis.lift (ix3 b g p)) = fun n : Fin 4096 => X (ix4 b g p n) := funext fun n => congrArg X (lift_lastAxis b g p n)
  rw [h, show (constant (F := Ideal) S_ .f32 0xFF800000#32) (Shape.Idx.first h_S_) = (⊥ : EReal) by
     show Ideal.ofBits .f32 0xFF800000#32 = ⊥
     simp [Ideal.ofBits, Ideal.ieee]]
  rfl

/-- The reference's floor under the maxima changes nothing. -/
theorem floor_apply (Y : FVec Ideal S2x8x4096 .f32) (j) :
    maximumf (broadcastInDim S2x8x4096 ![] bcast_S_S2x8x4096 (constant S_ .f32 0xFF800000#32)) Y j = Y j := by
  pointwise []
  rw [show Ideal.ofBits .f32 0xFF800000#32 = (⊥ : EReal) by simp [Ideal.ofBits, Ideal.ieee]]
  exact max_eq_right bot_le

/-- The scaled score of position `p` against key `n`. -/
def raw (b : Fin 2) (g : Fin 8) (p : Fin 4096) (n : ℕ) : EReal :=
  (∑ d : Fin 192, q (ix4 b p g d) * k (ix4 b ⟨n % 4096, Nat.mod_lt _ (by norm_num)⟩ g d)) * Ideal.ofBits .f32 0x3D93CD3A#32

theorem scores_apply (b : Fin 2) (g : Fin 8) (p n : Fin 4096) :
    scores q k (ix4 b g p n) = if n.val ≤ p.val then raw q k b g p n.val else ⊥ := by
  pointwise [scores, raw]
  rw [WordCmp.cmpi_sge_ofNat (by omega) (by omega), show id (constant (F := Ideal) S_ .f32 0xFF800000#32) ix0 = (⊥ : EReal) by
    show Ideal.ofBits .f32 0xFF800000#32 = ⊥
    simp [Ideal.ofBits, Ideal.ieee]]
  have e : (⟨n.val % 4096, Nat.mod_lt _ (by norm_num)⟩ : Fin 4096) = n := Fin.ext (Nat.mod_eq_of_lt n.isLt)
  rw [e]
  by_cases h : n.val ≤ p.val <;> simp [h, Scalar.select]

theorem maxima_apply (b : Fin 2) (g : Fin 8) (p : Fin 4096) :
    maxima q k (ix3 b g p) = Finset.univ.sup fun n : Fin 4096 => scores q k (ix4 b g p n) := by
  rw [maxima, floor_apply, maxRow]

theorem weights_apply (b : Fin 2) (g : Fin 8) (p n : Fin 4096) :
    weights q k (ix4 b g p n) = Ideal.exp (scores q k (ix4 b g p n) - maxima q k (ix3 b g p)) := by
  pointwise [weights]

theorem softmax_apply (b : Fin 2) (g : Fin 8) (p n : Fin 4096) :
    softmax q k (ix4 b g p n) = Ideal.div (weights q k (ix4 b g p n)) (∑ i : Fin 4096, weights q k (ix4 b g p i)) := by
  pointwise [softmax]

theorem result_apply (b : Fin 2) (p : Fin 4096) (g : Fin 8) (e : Fin 128) :
    result q k v (ix3 b p ⟨128 * g.val + e.val, by omega⟩) = ∑ n : Fin 4096, v (ix4 b n g e) * softmax q k (ix4 b g p n) := by
  pointwise [result]

/-- The scores that position `p` sees, by key number. -/
def seen (b : Fin 2) (g : Fin 8) (p : Fin 4096) (n : ℕ) : EReal := if n ≤ p.val then raw q k b g p n else ⊥

/-- THE REFERENCE: the values weighted by the softmax of the seen scores. -/
theorem result_eq (b : Fin 2) (p : Fin 4096) (g : Fin 8) (e : Fin 128) :
    result q k v (ix3 b p ⟨128 * g.val + e.val, by omega⟩)
      = ∑ n ∈ Finset.range 4096, v (ix4 b ⟨n % 4096, Nat.mod_lt _ (by norm_num)⟩ g e)
          * Ideal.div (Ideal.exp (seen q k b g p n - top (seen q k b g p) 4096))
              (∑ i ∈ Finset.range 4096, Ideal.exp (seen q k b g p i - top (seen q k b g p) 4096)) := by
  have hm : maxima q k (ix3 b g p) = top (seen q k b g p) 4096 := by
    rw [maxima_apply, top]
    apply le_antisymm
    · refine Finset.sup_le fun n _ => ?_
      rw [scores_apply]
      exact Finset.le_sup (f := seen q k b g p) (Finset.mem_range.mpr n.isLt)
    · refine Finset.sup_le fun n hn => ?_
      have := Finset.le_sup (f := fun n : Fin 4096 => scores q k (ix4 b g p n)) (Finset.mem_univ ⟨n, Finset.mem_range.mp hn⟩)
      simp only [scores_apply] at this
      simp only [scores_apply]
      exact this
  have hw : ∀ n : Fin 4096, weights q k (ix4 b g p n) = Ideal.exp (seen q k b g p n.val - top (seen q k b g p) 4096) := fun n => by
    rw [weights_apply, hm, scores_apply]
    rfl
  rw [result_apply]
  simp only [softmax_apply, hw]
  rw [Fin.sum_univ_eq_sum_range (fun i => Ideal.exp (seen q k b g p i - top (seen q k b g p) 4096)) 4096,
    ← Fin.sum_univ_eq_sum_range (fun n => v (ix4 b ⟨n % 4096, Nat.mod_lt _ (by norm_num)⟩ g e)
          * Ideal.div (Ideal.exp (seen q k b g p n - top (seen q k b g p) 4096))
              (∑ i ∈ Finset.range 4096, Ideal.exp (seen q k b g p i - top (seen q k b g p) 4096))) 4096]
  refine Finset.sum_congr rfl fun n _ => ?_
  have e : (⟨n.val % 4096, Nat.mod_lt _ (by norm_num)⟩ : Fin 4096) = n := Fin.ext (Nat.mod_eq_of_lt n.isLt)
  rw [e]

end Cert.ReferenceIdeal.Attention

end
-- ==== Proof.Equation.lean ====
/-
  The equation: a row of the kernel's result, at real queries and keys, is the reference's.
-/
module

public import proofs.«01_k».proof.Proof.Prep
public import proofs.«01_k».proof.Proof.Ref

@[expose] public section

set_option maxRecDepth 16384

noncomputable section

namespace Cert.KernelIdeal.Attention

open Cert.KernelIdeal Cert.KernelIdeal.Gen Idealize.ShloMosaic Idealize.ShloMosaic.TcCoe Idealize.SL.Sem Cert.OnlineSoftmax

/-- A sum of reals is real. -/
theorem coe_sum {ι : Type} (A : Finset ι) (f : ι → ℝ) : ((∑ i ∈ A, f i : ℝ) : EReal) = ∑ i ∈ A, (f i : EReal) :=
  map_sum (⟨⟨fun x : ℝ => (x : EReal), rfl⟩, EReal.coe_add⟩ : ℝ →+ EReal) f A

/-- The queries' scale is real. -/
theorem scale_real : ∃ s : ℝ, Ideal.ofBits .f32 0x3D93CD3A#32 = (s : EReal) := by
  rw [show Ideal.ofBits .f32 0x3D93CD3A#32 = ((9686330 : ℝ) : EReal) * ((2 ^ (-27 : ℤ) : ℝ) : EReal) by
    simp [Ideal.ofBits, Ideal.ieee]]
  exact ⟨_, (EReal.coe_mul _ _).symm⟩

/-- Scaled and padded rows have the product of the rows, times the scale and `log₂ e`. -/
theorem padded_product (f g : Fin 192 → ℝ) (s w : ℝ) :
    (∑ d : Fin 256, (if h : d.val < 192 then (f ⟨d.val, h⟩ : EReal) * (s : EReal) * (w : EReal) else 0) * (if h : d.val < 192 then (g ⟨d.val, h⟩ : EReal) else 0))
      = (∑ d : Fin 192, (f d : EReal) * (g d : EReal)) * (s : EReal) * (w : EReal) := by
  have e : ∀ d : Fin 256, (if h : d.val < 192 then (f ⟨d.val, h⟩ : EReal) * (s : EReal) * (w : EReal) else 0) * (if h : d.val < 192 then (g ⟨d.val, h⟩ : EReal) else 0)
      = (((if h : d.val < 192 then f ⟨d.val, h⟩ * g ⟨d.val, h⟩ * s * w else 0) : ℝ) : EReal) := fun d => by
    split
    · push_cast; rw [← EReal.coe_mul, ← EReal.coe_mul, ← EReal.coe_mul, ← EReal.coe_mul, ← EReal.coe_mul, ← EReal.coe_mul]; congr 1; ring
    · simp
  simp only [e]
  simp only [← EReal.coe_mul]
  rw [← coe_sum, ← coe_sum, ← EReal.coe_mul, ← EReal.coe_mul]
  congr 1
  rw [Fin.sum_univ_add (a := 192) (b := 64)]
  simp [Finset.sum_mul]

variable (q k : FVec Ideal S2x4096x8x192 .f32) (v : FVec Ideal S2x4096x8x128 .f32)

theorem padded_scores (fq fk : S2x4096x8x192.Idx → ℝ) (hq : ∀ i, q i = (fq i : EReal)) (hk : ∀ i, k i = (fk i : EReal)) (b : Fin 2) (g : Fin 8) (p : Fin 4096) (n : ℕ) :
    (∑ d : Fin 256, prepQ q (ix4 b g p d) * prepK k (ix4 b g ⟨n % 4096, Nat.mod_lt _ (by norm_num)⟩ d))
      = Cert.ReferenceIdeal.Attention.raw q k b g p n * (((Real.log 2)⁻¹ : ℝ) : EReal) := by
  obtain ⟨s, hs⟩ := scale_real
  unfold Cert.ReferenceIdeal.Attention.raw
  simp only [prepQ_apply, prepK_apply, hq, hk, hs]
  exact padded_product (fun d => fq (ix4 b p g d)) (fun d => fk (ix4 b ⟨n % 4096, Nat.mod_lt _ (by norm_num)⟩ g d)) s _

theorem raw_real (fq fk : S2x4096x8x192.Idx → ℝ) (hq : ∀ i, q i = (fq i : EReal)) (hk : ∀ i, k i = (fk i : EReal)) (b : Fin 2) (g : Fin 8) (p : Fin 4096) (n : ℕ) :
    ∃ x : ℝ, Cert.ReferenceIdeal.Attention.raw q k b g p n = (x : EReal) := by
  obtain ⟨s, hs⟩ := scale_real
  refine ⟨(∑ d : Fin 192, fq (ix4 b p g d) * fk (ix4 b ⟨n % 4096, Nat.mod_lt _ (by norm_num)⟩ g d)) * s, ?_⟩
  unfold Cert.ReferenceIdeal.Attention.raw
  simp only [hq, hk, hs, ← EReal.coe_mul]
  rw [← coe_sum, ← EReal.coe_mul]

theorem quotient_apply (C : Carry Ideal) (r : Fin 1024) (e : Fin 128) :
    quotient C (ix3 0 r e) = Ideal.div (C.2.2 (ix2 r e)) (C.2.1 (ix2 r 0)) := by
  pointwise [quotient]

theorem log2_inv_pos : 0 < (Real.log 2)⁻¹ := inv_pos.mpr (Real.log_pos (by norm_num))

/-- A ROW OF A HEAD: over blocks that hold head `g` of batch `b`, the queries from `1024 n` on, the kernel's quotient is the
    reference's entry. -/
theorem row_eq (fq fk : S2x4096x8x192.Idx → ℝ) (hq : ∀ i, q i = (fq i : EReal)) (hk : ∀ i, k i = (fk i : EReal))
    (x0 : Vec Ideal S1x2x1024x256 .bf16) (x1 : Vec Ideal S1x2x4096x256 .bf16) (x2 : Vec Ideal S1x2x4096x128 .bf16)
    (h : Fin 2) (n : ℕ) (hn : n < 4) (r : Fin 1024) (e : Fin 128) (b : Fin 2) (g : Fin 8) (p : Fin 4096) (hp : p.val = 1024 * n + r.val)
    (h0 : ∀ d, x0 (ix4 0 h r d) = prepQ q (ix4 b g p d)) (h1 : ∀ j d, x1 (ix4 0 h j d) = prepK k (ix4 b g j d))
    (h2 : ∀ j, x2 (ix4 0 h j e) = prepV v (ix4 b g j e)) :
    quotient (final x0 x1 x2 h n) (ix3 0 r e) = Cert.ReferenceIdeal.Attention.result q k v (ix3 b p ⟨128 * g.val + e.val, by omega⟩) := by
  have R := final_row_all x0 x1 x2 h n hn r e
  have hsc : ∀ j, sc x0 x1 h r j = Cert.ReferenceIdeal.Attention.raw q k b g p j * (((Real.log 2)⁻¹ : ℝ) : EReal) := fun j => by
    rw [← padded_scores _ _ fq fk hq hk]
    unfold sc
    exact Finset.sum_congr rfl fun d _ => by rw [h0, h1]
  have hseen : seen (1024 * n + r.val) (sc x0 x1 h r)
      = fun j => Cert.ReferenceIdeal.Attention.seen q k b g p j * (((Real.log 2)⁻¹ : ℝ) : EReal) := funext fun j => by
    unfold seen Cert.ReferenceIdeal.Attention.seen
    rw [hsc, ← hp]
    split
    · rfl
    · exact (EReal.bot_mul_coe_of_pos log2_inv_pos).symm
  have hvl : vl x2 h e = fun j => v (ix4 b ⟨j % 4096, Nat.mod_lt _ (by norm_num)⟩ g e) := funext fun j => by
    unfold vl
    rw [h2, prepV_apply]
  unfold RowHolds at R
  rw [hseen, hvl] at R
  rw [quotient_apply, Cert.ReferenceIdeal.Attention.result_eq]
  refine R.quotient (by norm_num) (fun j => ?_) ?_
  · unfold Cert.ReferenceIdeal.Attention.seen
    obtain ⟨x, hx⟩ := raw_real _ _ fq fk hq hk b g p j
    rw [hx]
    split
    · exact EReal.coe_ne_top x
    · exact bot_ne_top
  · unfold Cert.ReferenceIdeal.Attention.seen
    obtain ⟨x, hx⟩ := raw_real _ _ fq fk hq hk b g p 0
    rw [hx, if_pos (Nat.zero_le _)]
    exact EReal.coe_ne_bot x

variable (m : (ℓ : Loc nD τ sig) → Buf (Elt Ideal) ℓ) (c : Dev nD)

/-- THE RESULT ARRAY is the reference's. -/
theorem array_eq (fq fk : S2x4096x8x192.Idx → ℝ) (hq : ∀ i, m ((c : Thread nD τ).loc main_arg0) i = (fq i : EReal))
    (hk : ∀ i, m ((c : Thread nD τ).loc main_arg1) i = (fk i : EReal)) :
    (dats m 0 c).arrAt 3 cfg0.N
      = Cert.ReferenceIdeal.Attention.result (m ((c : Thread nD τ).loc main_arg0)) (m ((c : Thread nD τ).loc main_arg1)) (m ((c : Thread nD τ).loc main_arg2)) := by
  refine (dats m 0 c).arrAt_eq_of_covers 3 _ (by decide +kernel) fun t hf y => ?_
  have hqi : (grid0.coords t 2).val < 4 := (grid0.coords t 2).isLt
  have hhi : (grid0.coords t 1).val < 4 := (grid0.coords t 1).isLt
  have key := fun (h : Fin 2) (r : Fin 1024) (e : Fin 128) => row_eq _ _ (m ((c : Thread nD τ).loc main_arg2)) fq fk hq hk (iblk m c 0 t) (iblk m c 1 t) (iblk m c 2 t)
    h (grid0.coords t 2).val hqi r e ⟨(grid0.coords t 0).val, (grid0.coords t 0).isLt⟩ (head t h) ⟨1024 * (grid0.coords t 2).val + r.val, by omega⟩ rfl
    (fun d => queries_block m c t h r d) (fun j d => keys_block m c t h j d) fun j => values_block m c t h j e
  blk_simp
  rw [after0_3]
  unfold outsAt0
  have hy : ∀ z : S1x1024x256.Idx, out0_A_3 c (grid0.coords t) (ms0_0 t) (hs0_0 t) (ms0_1 t) (hs0_1 t) (ms0_2 t) (hs0_2 t) (ms0_3 t) (hs0_3 t) (iblk m c 0 t) (iblk m c 1 t) (iblk m c 2 t) z
    = Cert.ReferenceIdeal.Attention.result (m ((c : Thread nD τ).loc main_arg0)) (m ((c : Thread nD τ).loc main_arg1)) (m ((c : Thread nD τ).loc main_arg2))
        (ix3 ⟨(grid0.coords t 0).val, (grid0.coords t 0).isLt⟩ ⟨1024 * (grid0.coords t 2).val + (z 1).val, by have := (z 1).isLt; change (z 1).val < 1024 at this; omega⟩
          ⟨256 * (grid0.coords t 1).val + (z 2).val, by have := (z 2).isLt; change (z 2).val < 256 at this; omega⟩) := fun z => by
    have hc := cover0_A_3 c (grid0.coords t) (ms0_0 t) (hs0_0 t) (ms0_1 t) (hs0_1 t) (ms0_2 t) (hs0_2 t) (ms0_3 t) (hs0_3 t) (iblk m c 0 t) (iblk m c 1 t) (iblk m c 2 t) z
    rw [out_eq]
    refine View.canon_eq_of_allAt _ z _ (View.cover_of_tiled_head _ _ _ (by rfl) z)
      (View.allAt_cons_unit _ _ _ _ _ (fun x hx => ?_) (View.allAt_cons_unit _ _ _ _ _ (fun x hx => ?_) (View.allAt_nil _ _)))
    · idx_vars x
      obtain rfl : x0 = 0 := Subsingleton.elim _ _
      refine (key 1 x1 x2).trans (congrArg _ ?_)
      have e1 : (z 1).val = 0 + x1.val := hx 1
      have e2 : (z 2).val = 128 + x2.val := hx 2
      exact congrArg₂ (ix3 _) (Fin.ext (by simp only; omega)) (Fin.ext (by simp only [head, Fin.val_one]; omega))
    · idx_vars x
      obtain rfl : x0 = 0 := Subsingleton.elim _ _
      refine (key 0 x1 x2).trans (congrArg _ ?_)
      have e1 : (z 1).val = 0 + x1.val := hx 1
      have e2 : (z 2).val = 0 + x2.val := hx 2
      exact congrArg₂ (ix3 _) (Fin.ext (by simp only; omega)) (Fin.ext (by simp only [head, Fin.val_zero]; omega))
  refine (hy y).trans (congrArg _ ?_)
  blk_ext [index3 t]

end Cert.KernelIdeal.Attention

end
-- ==== Proof.Finite.lean ====
/-
  What the precondition says: queries and keys are real.
-/
module

public import proofs.«01_k».proof.Defs
public import proofs.«01_k».proof.Proof.Gen.Pre_finite_scores
public import Idealize.ShloMosaic.Lib.Pointwise
public import Idealize.ShloMosaic.Lib.ReduceAll

@[expose] public section

noncomputable section

namespace Cert.Pre_finite_scores

open Idealize.ShloMosaic Cert.Pre_finite_scores Cert.Pre_finite_scores.Gen

/-- An entry whose absolute value is below `⊤` is real. -/
theorem real_of_lt (x : EReal) (h : max x (-x) < ⊤) : ∃ r : ℝ, x = (r : EReal) := by
  induction x with
  | bot => simp at h
  | top => simp at h
  | coe r => exact ⟨r, rfl⟩

/-- An array whose entries all pass the test is real. -/
theorem all_real (x : FVec Ideal S2x4096x8x192 .f32) (j : S_.Idx)
    (h : Host.reduce IntOp.andi (cmpf .olt (Host.absf x) (broadcastInDim S2x4096x8x192 ![] Facts.bcast_S_S2x4096x8x192 (constant S_ .f32 0x7F800000#32)))
      (constantI S_ 1 1#1) Facts.reducesTo_S2x4096x8x192_S_d0_1_2_3 Facts.h_S_ j = 1#1) :
    ∃ f : S2x4096x8x192.Idx → ℝ, ∀ i, x i = (f i : EReal) := by
  have hi : ∀ i, ∃ r : ℝ, x i = (r : EReal) := fun i => by
    have e := Host.reduce_andi_all _ _ _ _ j h i
    apply real_of_lt
    have e' : Ideal.cmp .olt (max (x i) (-x i)) (Ideal.ofBits .f32 0x7F800000#32) = 1#1 := e
    rw [show Ideal.ofBits .f32 0x7F800000#32 = (⊤ : EReal) by simp [Ideal.ofBits, Ideal.ieee]] at e'
    by_contra hn
    simp [Ideal.cmp, hn] at e'
  exact ⟨fun i => (hi i).choose, fun i => (hi i).choose_spec⟩

theorem real_args (q k : FVec Ideal S2x4096x8x192 .f32) (v : FVec Ideal S2x4096x8x128 .f32) (h : fn q k v = fun _ => 1#1) :
    (∃ f : S2x4096x8x192.Idx → ℝ, ∀ i, q i = (f i : EReal)) ∧ ∃ f : S2x4096x8x192.Idx → ℝ, ∀ i, k i = (f i : EReal) := by
  have h' := congrFun h ix0
  dsimp only [fn] at h'
  have h2 := IntOp.andi_eq_one.1 h'
  exact ⟨all_real q _ h2.1, all_real k _ h2.2⟩

end Cert.Pre_finite_scores

end
-- ==== Proof.UpSetup.lean ====
/- The set-up of the experts' gated product (program Kernel4Ideal): the contents of memory when the region is
   entered, the prefetched tables, the windows' blocks, and the staging buffers, for any reading of floats. -/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host's padding of the two weight arrays. -/
def V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

set_option maxHeartbeats 800000 in
/-- @main up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- A buffer that the host writes none of its results to is found as launched. -/
theorem V_of_ne (c : Dev nD) (b : Ref sig .tc) (h : b ≠ main_c ∧ b ≠ main_call0_v0 ∧ b ≠ main_v0 ∧ b ≠ main_c_0 ∧ b ≠ main_call1_v0 ∧ b ≠ main_v1) :
    V m c b = m ((c : Thread nD τ).loc b) :=
  StableHlo.after_of_forall_not_mem (b := Proc.devRef .tc b) _ _ (List.forall_iff_forall_mem.mp (by
    obtain ⟨h0, h1, h2, h3, h4, h5⟩ := h
    simp only [hostOps0, hostOps0_1, hostOps0_2, hostOps0_3, List.flatten_cons, List.flatten_nil, List.append_nil, List.cons_append,
      List.nil_append, List.Forall, StableHlo.nullary_writes, StableHlo.unary_writes, StableHlo.binary_writes, Finset.mem_singleton]
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5⟩))
theorem V_main_arg0 (c : Dev nD) : V m c main_arg0 = m ((c : Thread nD τ).loc main_arg0) := V_of_ne m c main_arg0 (by decide)
theorem V_main_arg1 (c : Dev nD) : V m c main_arg1 = m ((c : Thread nD τ).loc main_arg1) := V_of_ne m c main_arg1 (by decide)
theorem V_main_arg2 (c : Dev nD) : V m c main_arg2 = m ((c : Thread nD τ).loc main_arg2) := V_of_ne m c main_arg2 (by decide)
theorem V_main_arg3 (c : Dev nD) : V m c main_arg3 = m ((c : Thread nD τ).loc main_arg3) := V_of_ne m c main_arg3 (by decide)
theorem V_main_arg4 (c : Dev nD) : V m c main_arg4 = m ((c : Thread nD τ).loc main_arg4) := V_of_ne m c main_arg4 (by decide)
theorem V_main_arg5 (c : Dev nD) : V m c main_arg5 = m ((c : Thread nD τ).loc main_arg5) := V_of_ne m c main_arg5 (by decide)

/-- The weights as the region finds them: padded with zeros to 5632 columns. -/
def padded (W : FVec F S8x4096x5504 .f32) : FVec F S8x4096x5632 .f32 :=
  pad S8x4096x5632 ![0, 0, 0] ![0, 0, 128] ![0, 0, 0] W (sitofp .f32 (constantI S_ 32 0#32)) pads_S8x4096x5504_S8x4096x5632_000_000_01280 h_S_

theorem V_main_v0 (c : Dev nD) : V m c main_v0 = padded (m ((c : Thread nD τ).loc main_arg4)) := by
  unfold V
  simp only [List.flatten_cons, List.flatten_nil, List.append_nil, List.cons_append, List.nil_append, hostOps0, hostOps0_1, hostOps0_2, hostOps0_3]
  after_results
  rfl

theorem V_main_v1 (c : Dev nD) : V m c main_v1 = padded (m ((c : Thread nD τ).loc main_arg5)) := by
  unfold V
  simp only [List.flatten_cons, List.flatten_nil, List.append_nil, List.cons_append, List.nil_append, hostOps0, hostOps0_1, hostOps0_2, hostOps0_3]
  after_results
  rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S21 .i32 := Memref.whole main_arg0
abbrev htbM0_0 : tbM0_0.IsWhole := Memref.isWhole_whole _
abbrev tbM0_1 : Memref sig .tc .smem S21 .i32 := Memref.whole main_arg1
abbrev htbM0_1 : tbM0_1.IsWhole := Memref.isWhole_whole _
abbrev tbM0_2 : Memref sig .tc .smem S21 .i32 := Memref.whole main_arg2
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = {0, 1, 2} from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel4Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 0).trans (((dats 0 c).arrAt_in 0 rfl _).trans ((hA c 0).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The kernel body on any staging memrefs: a subtype the run finds -/

/-- One staging buffer of the output window, through which its contents are stated (the choice does not matter). -/
abbrev VO0_3 : View sig .tc .vmem S1280x256 .bf16 := (Memref.whole cc0_stg3_0 : Memref sig .tc .vmem S1280x256 .bf16).view
/-- Each window's current staging memref at point `t`, spelled as the pipeline passes it (`bodyAt0`), and its wholeness. -/
abbrev ms0_0 (hO : Ok m) (t : Fin (cfgM m hO).N) : Memref sig .tc .vmem S1280x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4096x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1280x256 .bf16 := spec0_3.stage ((cfgM m hO).slots t 3)
abbrev hs0_3 (hO : Ok m) (t : Fin (cfgM m hO).N) : (ms0_3 m hO t).IsWhole := hstage0_3 (((cfgM m hO).slots t 3).cast nbuf0_3)

/-- The output window is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 1 (fun _ => rfl) (by decide)) (P := 1) (m := 0) (by decide) rfl t).mpr (Nat.mod_one _) : ∀ t : Fin grid0.N, Pipeline.Window.flushOf grid0 true cc0_transform_3 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_swiglu_up (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

end Cert.Kernel4Ideal.Gen

end
-- ==== Proof.UpRun.lean ====
/- One run of the body of the experts' gated product: whatever the number of live slices, which pieces it writes. -/
module

public import proofs.«01_k».proof.Proof.UpSetup
public import Mathlib.Tactic.IntervalCases

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of live slices of the tile: the word of the second table that the body reads. -/
abbrev live (i : grid0.Coords) (T1 : Vec F S21 .i32) : BitVec 32 :=
  tbM0_1.view.readAt (Elt F) (Rect.unit (s := S21) (k0_off1 i) S1.size (k0_off1_inb i)).toLoadRect T1 (Shape.Idx.first (numel1_S1.symm ▸ Nat.one_pos))

/-- A whole weight block as the body loads it. -/
abbrev weights (arg6 : Memref sig .tc .vmem S1x4096x256 .f32) (harg6 : arg6.IsWhole) (x1 : Vec F S1x4096x256 .f32) : Vec F S1x4096x256 .f32 :=
  View.readAt (Elt F) arg6.view (Rect.unit (s := S1x4096x256) ![0, 0, 0] S1x4096x256.size inb_S1x4096x256_S1x4096x256_0_0_0).toLoadRect (harg6.unread x1)

/-- What the body stores when `n` slices of 128 rows are live, the last store first: the gated product of the live rows, and
    zeros below them. -/
def pieces (n : ℕ) (arg5 : Memref sig .tc .vmem S1280x4096 .bf16) (harg5 : arg5.IsWhole) (arg6 : Memref sig .tc .vmem S1x4096x256 .f32) (harg6 : arg6.IsWhole) (arg7 : Memref sig .tc .vmem S1x4096x256 .f32) (harg7 : arg7.IsWhole)
    (x0 : Vec F S1280x4096 .bf16) (x1 x2 : Vec F S1x4096x256 .f32) : List (View.Piece (Elt F) S1280x256 .bf16) :=
  match n with
  | 0 => [⟨Rect.unit (s := S1280x256) ![0, 0] S1280x256.size inb_S1280x256_S1280x256_0_0, k0_pay4⟩]
  | 1 => [⟨Rect.unit (s := S1280x256) ![128, 0] S1152x256.size inb_S1280x256_S1152x256_128_0, k0_pay6⟩,
      ⟨Rect.unit (s := S1280x256) ![0, 0] S128x256.size inb_S1280x256_S128x256_0_0,
        k0_pay5 (View.readAt (Elt F) arg5.view (Rect.unit (s := S1280x4096) ![0, 0] S128x4096.size inb_S1280x4096_S128x4096_0_0).toLoadRect (harg5.unread x0)) (weights arg6 harg6 x1) (weights arg7 harg7 x2)⟩]
  | 2 => [⟨Rect.unit (s := S1280x256) ![256, 0] S1024x256.size inb_S1280x256_S1024x256_256_0, k0_pay8⟩,
      ⟨Rect.unit (s := S1280x256) ![0, 0] S256x256.size inb_S1280x256_S256x256_0_0,
        k0_pay7 (View.readAt (Elt F) arg5.view (Rect.unit (s := S1280x4096) ![0, 0] S256x4096.size inb_S1280x4096_S256x4096_0_0).toLoadRect (harg5.unread x0)) (weights arg6 harg6 x1) (weights arg7 harg7 x2)⟩]
  | 3 => [⟨Rect.unit (s := S1280x256) ![384, 0] S896x256.size inb_S1280x256_S896x256_384_0, k0_pay10⟩,
      ⟨Rect.unit (s := S1280x256) ![0, 0] S384x256.size inb_S1280x256_S384x256_0_0,
        k0_pay9 (View.readAt (Elt F) arg5.view (Rect.unit (s := S1280x4096) ![0, 0] S384x4096.size inb_S1280x4096_S384x4096_0_0).toLoadRect (harg5.unread x0)) (weights arg6 harg6 x1) (weights arg7 harg7 x2)⟩]
  | 4 => [⟨Rect.unit (s := S1280x256) ![512, 0] S768x256.size inb_S1280x256_S768x256_512_0, k0_pay12⟩,
      ⟨Rect.unit (s := S1280x256) ![0, 0] S512x256.size inb_S1280x256_S512x256_0_0,
        k0_pay11 (View.readAt (Elt F) arg5.view (Rect.unit (s := S1280x4096) ![0, 0] S512x4096.size inb_S1280x4096_S512x4096_0_0).toLoadRect (harg5.unread x0)) (weights arg6 harg6 x1) (weights arg7 harg7 x2)⟩]
  | 5 => [⟨Rect.unit (s := S1280x256) ![640, 0] S640x256.size inb_S1280x256_S640x256_640_0, k0_pay14⟩,
      ⟨Rect.unit (s := S1280x256) ![0, 0] S640x256.size inb_S1280x256_S640x256_0_0,
        k0_pay13 (View.readAt (Elt F) arg5.view (Rect.unit (s := S1280x4096) ![0, 0] S640x4096.size inb_S1280x4096_S640x4096_0_0).toLoadRect (harg5.unread x0)) (weights arg6 harg6 x1) (weights arg7 harg7 x2)⟩]
  | 6 => [⟨Rect.unit (s := S1280x256) ![768, 0] S512x256.size inb_S1280x256_S512x256_768_0, k0_pay16⟩,
      ⟨Rect.unit (s := S1280x256) ![0, 0] S768x256.size inb_S1280x256_S768x256_0_0,
        k0_pay15 (View.readAt (Elt F) arg5.view (Rect.unit (s := S1280x4096) ![0, 0] S768x4096.size inb_S1280x4096_S768x4096_0_0).toLoadRect (harg5.unread x0)) (weights arg6 harg6 x1) (weights arg7 harg7 x2)⟩]
  | 7 => [⟨Rect.unit (s := S1280x256) ![896, 0] S384x256.size inb_S1280x256_S384x256_896_0, k0_pay18⟩,
      ⟨Rect.unit (s := S1280x256) ![0, 0] S896x256.size inb_S1280x256_S896x256_0_0,
        k0_pay17 (View.readAt (Elt F) arg5.view (Rect.unit (s := S1280x4096) ![0, 0] S896x4096.size inb_S1280x4096_S896x4096_0_0).toLoadRect (harg5.unread x0)) (weights arg6 harg6 x1) (weights arg7 harg7 x2)⟩]
  | 8 => [⟨Rect.unit (s := S1280x256) ![1024, 0] S256x256.size inb_S1280x256_S256x256_1024_0, k0_pay20⟩,
      ⟨Rect.unit (s := S1280x256) ![0, 0] S1024x256.size inb_S1280x256_S1024x256_0_0,
        k0_pay19 (View.readAt (Elt F) arg5.view (Rect.unit (s := S1280x4096) ![0, 0] S1024x4096.size inb_S1280x4096_S1024x4096_0_0).toLoadRect (harg5.unread x0)) (weights arg6 harg6 x1) (weights arg7 harg7 x2)⟩]
  | 9 => [⟨Rect.unit (s := S1280x256) ![1152, 0] S128x256.size inb_S1280x256_S128x256_1152_0, k0_pay2⟩,
      ⟨Rect.unit (s := S1280x256) ![0, 0] S1152x256.size inb_S1280x256_S1152x256_0_0,
        k0_pay1 (View.readAt (Elt F) arg5.view (Rect.unit (s := S1280x4096) ![0, 0] S1152x4096.size inb_S1280x4096_S1152x4096_0_0).toLoadRect (harg5.unread x0)) (weights arg6 harg6 x1) (weights arg7 harg7 x2)⟩]
  | 10 => [⟨Rect.unit (s := S1280x256) ![0, 0] S1280x256.size inb_S1280x256_S1280x256_0_0,
        k0_pay3 (View.readAt (Elt F) arg5.view (Rect.unit (s := S1280x4096) ![0, 0] S1280x4096.size inb_S1280x4096_S1280x4096_0_0).toLoadRect (harg5.unread x0)) (weights arg6 harg6 x1) (weights arg7 harg7 x2)⟩]
  | _ => []

set_option maxHeartbeats 8000000 in
/-- The body, run with `n` live slices on whole staging buffers: it leaves its inputs as they were and writes `pieces n`
    into the output's buffer. -/
theorem run (c : Dev nD) (i : grid0.Coords) (arg5 : Memref sig .tc .vmem S1280x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S1280x256 .bf16) (harg8 : arg8.IsWhole)
    (x0 : Vec F S1280x4096 .bf16) (x1 x2 : Vec F S1x4096x256 .f32) (xt0 : TbBuf0 (F := F) c tbM0_0) (xt1 : TbBuf0 (F := F) c tbM0_1) (xt2 : TbBuf0 (F := F) c tbM0_2)
    (n : ℕ) (hn : n ≤ 10) (hw : live (F := F) i xt1 = BitVec.ofNat 32 n) (E : Set ℕ) (K : PUnit → sProp 𝕄) :
    iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2
        ∗ (iprop(owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f (pieces n arg5 harg5 arg6 harg6 arg7 harg7 x0 x1 x2)) ∗ tbPt0 c tbM0_0 xt0 ∗ tbPt0 c tbM0_1 xt1 ∗ tbPt0 c tbM0_2 xt2) -∗ K ⟨⟩))
      ⊢ wp frame (wpE (defs₀ (F := F)) Variants.none c none) E (cc0_swiglu_up i tbM0_0 htbM0_0 tbM0_1 htbM0_1 tbM0_2 htbM0_2 arg5 harg5 arg6 harg6 arg7 harg7 arg8 harg8) K := by
  interval_cases n
  all_goals
    simp only [cc0_swiglu_up_eq_skeleton]; unfold cc0_swiglu_up_skel
    unfold owns
    iintro ⟨⟨%f0, %hf0, H0⟩, ⟨%f1, %hf1, H1⟩, ⟨%f2, %hf2, H2⟩, ⟨%d3, %f3, -, H3⟩, HT0, HT1, HT2, Hk⟩
    obtain rfl := harg5.eq_unread hf0; obtain rfl := harg6.eq_unread hf1; obtain rfl := harg7.eq_unread hf2
    sl_exec (disch := first |
        (guard_target = k0_cond1 _ = _; exact (congrArg k0_cond1 hw).trans (by decide)) |
        (guard_target = ¬(k0_cond1 _ = _); exact fun h => absurd ((congrArg k0_cond1 hw).symm.trans h) (by decide)) |
        (guard_target = k0_cond2 _ = _; exact (congrArg k0_cond2 hw).trans (by decide)) |
        (guard_target = ¬(k0_cond2 _ = _); exact fun h => absurd ((congrArg k0_cond2 hw).symm.trans h) (by decide)) |
        (guard_target = k0_cond3 _ = _; exact (congrArg k0_cond3 hw).trans (by decide)) |
        (guard_target = ¬(k0_cond3 _ = _); exact fun h => absurd ((congrArg k0_cond3 hw).symm.trans h) (by decide)) |
        (guard_target = k0_cond4 _ = _; exact (congrArg k0_cond4 hw).trans (by decide)) |
        (guard_target = ¬(k0_cond4 _ = _); exact fun h => absurd ((congrArg k0_cond4 hw).symm.trans h) (by decide)) |
        (guard_target = k0_cond5 _ = _; exact (congrArg k0_cond5 hw).trans (by decide)) |
        (guard_target = ¬(k0_cond5 _ = _); exact fun h => absurd ((congrArg k0_cond5 hw).symm.trans h) (by decide)) |
        (guard_target = k0_cond6 _ = _; exact (congrArg k0_cond6 hw).trans (by decide)) |
        (guard_target = ¬(k0_cond6 _ = _); exact fun h => absurd ((congrArg k0_cond6 hw).symm.trans h) (by decide)) |
        (guard_target = k0_cond7 _ = _; exact (congrArg k0_cond7 hw).trans (by decide)) |
        (guard_target = ¬(k0_cond7 _ = _); exact fun h => absurd ((congrArg k0_cond7 hw).symm.trans h) (by decide)) |
        (guard_target = k0_cond8 _ = _; exact (congrArg k0_cond8 hw).trans (by decide)) |
        (guard_target = ¬(k0_cond8 _ = _); exact fun h => absurd ((congrArg k0_cond8 hw).symm.trans h) (by decide)) |
        (guard_target = k0_cond9 _ = _; exact (congrArg k0_cond9 hw).trans (by decide)) |
        (guard_target = ¬(k0_cond9 _ = _); exact fun h => absurd ((congrArg k0_cond9 hw).symm.trans h) (by decide)) |
        (guard_target = k0_cond10 _ = _; exact (congrArg k0_cond10 hw).trans (by decide)) |
        (guard_target = ¬(k0_cond10 _ = _); exact fun h => absurd ((congrArg k0_cond10 hw).symm.trans h) (by decide)) |
        (guard_target = k0_cond11 _ = _; exact (congrArg k0_cond11 hw).trans (by decide)) |
        (guard_target = ¬(k0_cond11 _ = _); exact fun h => absurd ((congrArg k0_cond11 hw).symm.trans h) (by decide)))
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]; · iexists _; iexact H3
    isplitl [HT0]; · iexact HT0
    isplitl [HT1]; · iexact HT1
    iexact HT2

end Cert.Kernel4Ideal.Gen

end
-- ==== Proof.UpFrame.lean ====
/- The frame of the experts' gated product (program Kernel4Ideal), for any reading of floats: under the side condition
   of the tables and with at most ten live slices a tile, the launch ends, with its arguments unchanged and the result
   array at what the points of the grid wrote. -/
module

public import proofs.«01_k».proof.Proof.UpRun
public import Idealize.ShloMosaic.Lib.Claim

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Whatever the number of live slices, the pieces cover the block. -/
theorem cover (n : ℕ) (hn : n ≤ 10) (arg5 : Memref sig .tc .vmem S1280x4096 .bf16) (harg5 : arg5.IsWhole) (arg6 : Memref sig .tc .vmem S1x4096x256 .f32) (harg6 : arg6.IsWhole) (arg7 : Memref sig .tc .vmem S1x4096x256 .f32) (harg7 : arg7.IsWhole)
    (x0 : Vec F S1280x4096 .bf16) (x1 x2 : Vec F S1x4096x256 .f32) (y : S1280x256.Idx) :
    ∃ pc ∈ pieces n arg5 harg5 arg6 harg6 arg7 harg7 x0 x1 x2, y ∈ pc.1.set := by
  interval_cases n <;> exact View.cover_of_tiledBy (pieces _ arg5 harg5 arg6 harg6 arg7 harg7 x0 x1 x2) ![128, 256] (by sl_kernel_rfl) y

/-- The number of live slices of the tile at point `t`, as the body reads it. -/
def liveAt (t : Fin grid0.N) : ℕ := (live (F := F) (grid0.coords t) (tbl m 1)).toNat

theorem liveAt_spec (c : Dev nD) (t : Fin grid0.N) : live (F := F) (grid0.coords t) (tbl m 1) = BitVec.ofNat 32 (liveAt m t) := by
  unfold liveAt; simp

/-- No tile has more than ten live slices. -/
abbrev LiveOk : Prop := ∀ t : Fin grid0.N, liveAt m t ≤ 10

/-- What the output's staging buffer holds after the body at point `t`. -/
def outsAt0 (hO : Ok m) (c : Dev nD) (t : Fin (cfgM m hO).N) : Vec F S1280x256 .bf16 :=
  VO0_3.read (Elt F) (VO0_3.writes (Elt F) VO0_3.junk (pieces (liveAt m t) (ms0_0 m hO t) (hs0_0 m hO t) (ms0_1 m hO t) (hs0_1 m hO t) (ms0_2 m hO t) (hs0_2 m hO t) (iblk m hO c 0 t) (iblk m hO c 1 t) (iblk m hO c 2 t)))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

set_option maxHeartbeats 800000 in
/-- The body at any point: the inputs' memrefs hold their blocks (`before0_W`); so the
    run applies; the invariant passes through unread; the core owes nothing throughout. -/
theorem sound_body (hO : Ok m) (hL : LiveOk m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1, HT2⟩⟩, Ho, ⟨%d0, H0⟩, ⟨%d1, H1⟩, ⟨%d2, H2⟩, ⟨%d3, H3⟩⟩
  iapply (run c (grid0.coords t) _ _ _ _ _ _ _ _ (iblk m hO c 0 t) (iblk m hO c 1 t) (iblk m hO c 2 t) (tbl m 0) (tbl m 1) (tbl m 2) (liveAt m t) (hL t) (liveAt_spec m c t) Set.univ _)
  isplitl [H0]; · iexact H0
  isplitl [H1]; · iexact H1
  isplitl [H2]; · iexact H2
  isplitl [H3]; · iexists _; iexact H3
  isplitl [HT0]; · iexact HT0
  isplitl [HT1]; · iexact HT1
  isplitl [HT2]; · iexact HT2
  iintro ⟨H0, H1, H2, ⟨%e3, H3⟩, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover _ (hL t) _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- A window that is written back at a point is left at what the body leaves, idle there or not. -/
theorem leaves_flushed {M : Type} [URA M] (b fl : Bool) (h : fl = true) (P Q : sProp M) :
    Q ⊢ (match (generalizing := false) b with | true => (match (generalizing := false) fl with | false => P | true => Q) | false => Q) := by
  subst h; cases b <;> exact .rfl

/-- The library's body obligation, at every point: the body's triple restated (Lib/Pipeline/FrameBody.lean `triple_restated`). -/
theorem body_obligation (hO : Ok m) (hL : LiveOk m) (c : Dev nD) : BodyObligation (dats (F := F) m hO 0 c) (defs₀ (F := F)) Variants.none () Set.univ := fun t => by
  rw [bigSep_W0, bigSep_W0, defs₀_row m hO]
  exact triple_restated (sound_body m hO hL c t) rfl .rfl fun _ =>
    sep_mono_r (sep_mono_r (sep_mono_r (sep_mono_r (sep_mono_r (leaves_flushed _ _ (flush0_3 (adm m hO) t) _ _)))))

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hL : LiveOk m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO hL c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hL : LiveOk m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hL)

/-- `frame` without the counters: the argument arrays end unchanged. -/
theorem unchanged (hO : Ok m) (hL : LiveOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO hL)

/-- THE FRAME, for every contents of the tables under which the blocks lie inside their arrays: the launch ends, with its
    arguments unchanged and every semaphore at zero. -/
theorem frame (hO : Ok m) (hL : LiveOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hL) ((θ_run defs _ _).mono (fun _ h => h.2) (run_main_quiescent m ρ hO hL))

end Cert.Kernel4Ideal.Gen

end
-- ==== Proof.UpValue.lean ====
/- The experts' gated product at the reals: what one block of the result holds. -/
module

public import proofs.«01_k».proof.Proof.UpFrame
public import Idealize.ShloMosaic.Lib.Pointwise
public import Idealize.ShloMosaic.Lib.ValueIdx
public import Idealize.ShloMosaic.Lib.WholeRead

@[expose] public section

set_option maxRecDepth 16384

noncomputable section

namespace Cert.Kernel4Ideal.Gen

open Idealize.ShloMosaic Idealize.ShloMosaic.TcCoe

/-- The gated product of two numbers: the first times its logistic, times the second. -/
def gated (g u : EReal) : EReal := g * Ideal.logistic g * u

/-- The block with `n` live slices: the gated product in the live rows, zero below them. -/
def blk (n : ℕ) (X : Vec Ideal S1280x4096 .bf16) (W U : Vec Ideal S1x4096x256 .f32) (y : S1280x256.Idx) : EReal :=
  if (y 0).val < 128 * n then gated (∑ k : Fin 4096, X (ix2 (y 0) k) * W (ix3 0 k (y 1))) (∑ k : Fin 4096, X (ix2 (y 0) k) * U (ix3 0 k (y 1))) else 0

/-- Every piece that the body stores is a part of `blk`. -/
theorem pieces_part (n : ℕ) (hn : n ≤ 10) (arg5 : Memref sig .tc .vmem S1280x4096 .bf16) (harg5 : arg5.IsWhole) (arg6 : Memref sig .tc .vmem S1x4096x256 .f32) (harg6 : arg6.IsWhole) (arg7 : Memref sig .tc .vmem S1x4096x256 .f32) (harg7 : arg7.IsWhole)
    (X : Vec Ideal S1280x4096 .bf16) (W U : Vec Ideal S1x4096x256 .f32) :
    ∀ p ∈ pieces (F := Ideal) n arg5 harg5 arg6 harg6 arg7 harg7 X W U, ∀ x : p.1.shape.Idx, p.2 x = blk n X W U (p.1.emb x) := by
  interval_cases n <;> simp only [pieces, List.forall_mem_cons, List.not_mem_nil, false_imp_iff, implies_true, and_true]
  all_goals first | refine ⟨fun x => ?_, fun x => ?_⟩ | refine fun x => ?_
  all_goals
    idx_vars x
    pointwise [blk, k0_pay1, k0_pay2, k0_pay3, k0_pay4, k0_pay5, k0_pay6, k0_pay7, k0_pay8, k0_pay9, k0_pay10, k0_pay11, k0_pay12, k0_pay13, k0_pay14,
      k0_pay15, k0_pay16, k0_pay17, k0_pay18, k0_pay19, k0_pay20, Memref.IsWhole.readAt_unread, weights]
    try exact (if_neg (Nat.not_lt.2 (Nat.le_add_right _ _))).symm
  all_goals
    try refine Eq.trans ?_ (if_pos (show 0 + 1 * x0.val < _ by omega)).symm
    refine congrArg₂ gated ?_ ?_
    all_goals
      refine Finset.sum_congr rfl fun k _ => congrArg₂ (fun a b : EReal => a * b)
        (congrArg X (congrArg (fun r => ix2 r k) (Fin.ext (show x0.val = 0 + 1 * x0.val by omega)))) ?_
      first
        | exact congrArg W (congrArg (fun r => ix3 0 k r) (Fin.ext (show x1.val = 0 + 1 * x1.val by omega)))
        | exact congrArg U (congrArg (fun r => ix3 0 k r) (Fin.ext (show x1.val = 0 + 1 * x1.val by omega)))

end Cert.Kernel4Ideal.Gen

end
-- ==== Proof.Plan.lean ====
/- What the precondition on the routing tables says: every tile has an expert below 8, at most ten live groups of rows
   and a source tile below 21, and a live tile's source is the tile itself. -/
module

public import proofs.«01_k».proof.Defs
public import proofs.«01_k».proof.Proof.Gen.Pre_plan4
public import proofs.«01_k».proof.Proof.Gen.Pre_plan5
public import Idealize.ShloMosaic.Lib.Pointwise
public import Idealize.ShloMosaic.Lib.ValueIdx
public import Idealize.ShloMosaic.Lib.ReduceAll
public import Idealize.ShloMosaic.Lib.WordCmp

@[expose] public section

noncomputable section

namespace Cert.Plan

open Idealize.ShloMosaic

abbrev Tiles : Shape := ⟨1, ![21]⟩

/-- The tables' words, tile by tile. -/
structure InRange (T0 T1 T2 : IVec Tiles 32) : Prop where
  expert : ∀ t : Fin 21, (T0 (ix1 t)).toNat < 8
  live : ∀ t : Fin 21, (T1 (ix1 t)).toNat ≤ 10
  source : ∀ t : Fin 21, (T2 (ix1 t)).toNat < 21
  own : ∀ t : Fin 21, 0 < (T1 (ix1 t)).toNat → (T2 (ix1 t)).toNat = t.val

theorem between {x : BitVec 32} {n : ℕ} (hn : n < 2 ^ 31) (h0 : IntOp.cmpi .sge x 0#32 = 1#1) (h1 : IntOp.cmpi .slt x (BitVec.ofNat 32 n) = 1#1) : x.toNat < n := by
  simp only [IntOp.cmpi, BitVec.slt, BitVec.sle, WordCmp.ofBool_eq_one_iff, decide_eq_true_eq] at h0 h1
  have e1 : (BitVec.ofNat 32 n).toInt = n := by
    rw [BitVec.toInt_eq_toNat_of_lt (by simp; omega)]; simp; omega
  have e0 : (0#32).toInt = 0 := rfl
  rw [e1] at h1; rw [e0] at h0
  have := BitVec.toInt_eq_toNat_cond x
  split at this <;> omega

theorem atMost {x : BitVec 32} {n : ℕ} (hn : n < 2 ^ 31) (h0 : IntOp.cmpi .sge x 0#32 = 1#1) (h1 : IntOp.cmpi .sle x (BitVec.ofNat 32 n) = 1#1) : x.toNat ≤ n := by
  simp only [IntOp.cmpi, BitVec.slt, BitVec.sle, WordCmp.ofBool_eq_one_iff, decide_eq_true_eq] at h0 h1
  have e1 : (BitVec.ofNat 32 n).toInt = n := by
    rw [BitVec.toInt_eq_toNat_of_lt (by simp; omega)]; simp; omega
  have e0 : (0#32).toInt = 0 := rfl
  rw [e1] at h1; rw [e0] at h0
  have := BitVec.toInt_eq_toNat_cond x
  split at this <;> omega

theorem eq_of_cmpi {x y : BitVec 32} (h : IntOp.cmpi .eq x y = 1#1) : x = y := by
  simpa [IntOp.cmpi, WordCmp.ofBool_eq_one_iff] using h

theorem or_one (a b : BitVec 1) (h : IntOp.ori a b = 1#1) : a = 1#1 ∨ b = 1#1 := by
  revert a b; decide

theorem inRange5 {F : FTy → Type} [FloatOps F] (T0 T1 T2 : IVec Tiles 32) (X : FVec F ⟨2, ![26880, 5504]⟩ .bf16) (W : FVec F ⟨3, ![8, 5504, 4096]⟩ .f32)
    (h : Pre_plan5.fn (F := F) T0 T1 T2 X W = fun _ => 1#1) : InRange T0 T1 T2 := by
  have h' := congrFun h ix0
  dsimp only [Pre_plan5.fn, Pre_plan5.fn_part1] at h'
  obtain ⟨h1, hO⟩ := IntOp.andi_eq_one.1 h'
  obtain ⟨h2, hS⟩ := IntOp.andi_eq_one.1 h1
  obtain ⟨hE, hL⟩ := IntOp.andi_eq_one.1 h2
  have hE := Host.reduce_andi_all _ _ _ _ _ hE
  have hL := Host.reduce_andi_all _ _ _ _ _ hL
  have hS := Host.reduce_andi_all _ _ _ _ _ hS
  have hO := Host.reduce_andi_all _ _ _ _ _ hO
  refine ⟨fun t => ?_, fun t => ?_, fun t => ?_, fun t ht => ?_⟩
  · obtain ⟨a, b⟩ := IntOp.andi_eq_one.1 (hE (ix1 t)); exact between (by decide) a b
  · obtain ⟨a, b⟩ := IntOp.andi_eq_one.1 (hL (ix1 t)); exact atMost (by decide) a b
  · obtain ⟨a, b⟩ := IntOp.andi_eq_one.1 (hS (ix1 t)); exact between (by decide) a b
  · rcases or_one _ _ (hO (ix1 t)) with a | a
    · have : T1 (ix1 t) = 0#32 := eq_of_cmpi a
      rw [this] at ht; exact absurd ht (by decide)
    · have : T2 (ix1 t) = BitVec.ofNat 32 t.val := eq_of_cmpi a
      rw [this]; simp; omega

theorem inRange4 {F : FTy → Type} [FloatOps F] (T0 T1 T2 : IVec Tiles 32) (X : FVec F ⟨2, ![26880, 4096]⟩ .bf16) (W U : FVec F ⟨3, ![8, 4096, 5504]⟩ .f32)
    (h : Pre_plan4.fn (F := F) T0 T1 T2 X W U = fun _ => 1#1) : InRange T0 T1 T2 :=
  inRange5 (F := F) T0 T1 T2 (fun _ => FloatOps.ofBits _ 0#16) (fun _ => FloatOps.ofBits _ 0#32) h

end Cert.Plan

end
-- ==== Proof.UpArray.lean ====
/- The experts' gated product: what the precondition gives the launch, and the blocks that the body reads, as entries of
   the arguments. -/
module

public import proofs.«01_k».proof.Proof.UpValue
public import proofs.«01_k».proof.Proof.Plan
public import Idealize.ShloMosaic.Lib.Writes
public import Idealize.ShloMosaic.Lib.PairWhole
public import Idealize.ShloMosaic.Lib.Claim
public import Idealize.ShloMosaic.Lib.Pipeline.ValueKit.Geometry

@[expose] public section

set_option maxRecDepth 16384

noncomputable section

namespace Cert.Kernel4Ideal.Gen

open Idealize.ShloMosaic Idealize.ShloMosaic.TcCoe

section
variable {F : FTy → Type} [FloatOps F] (m : (ℓ : Loc nD τ sig) → Buf (Elt F) ℓ)

/-- The precondition on the tables. -/
abbrev Planned : Prop := Plan.InRange (tbl m 0 : Vec F S21 .i32) (tbl m 1 : Vec F S21 .i32) (tbl m 2 : Vec F S21 .i32)

/-- The tile of a grid point. -/
abbrev tile (i : grid0.Coords) : Fin 21 := ⟨(i 0).val, (i 0).isLt⟩

/-- The words of the tables at a tile. -/
abbrev expertAt (t : Fin 21) : ℕ := BitVec.toNat (w := 32) ((tbl m 0 : Vec F S21 .i32) (ix1 t))
abbrev rowsAt (t : Fin 21) : ℕ := BitVec.toNat (w := 32) ((tbl m 1 : Vec F S21 .i32) (ix1 t))
abbrev sourceAt (t : Fin 21) : ℕ := BitVec.toNat (w := 32) ((tbl m 2 : Vec F S21 .i32) (ix1 t))

theorem word_index (i : grid0.Coords) (h) (z : (Rect.unit (s := S21) (k0_off1 i) S1.size h).shape.Idx) :
    (Rect.unit (s := S21) (k0_off1 i) S1.size h).emb z = ix1 (tile i) := by
  funext a
  apply Fin.ext
  obtain rfl : a = 0 := Subsingleton.elim _ _
  have hz : (z 0).val = 0 := by have : (z 0).val < 1 := (z 0).isLt; omega
  have h1 : (i 0).val < 21 := (i 0).isLt
  show (BitVec.ofNat 32 (i 0).val).toNat + 1 * (z 0).val = (i 0).val
  rw [hz]; simp; omega

theorem transform0 (i : grid0.Coords) : cc0_transform_0 k0_off1_inb numel1_S1 (tbl m) i = ![sourceAt m (tile i), 0] := by
  unfold sourceAt
  generalize tbl m = pf
  have e := word_index i (k0_off1_inb i) (Shape.Idx.first (numel1_S1.symm ▸ Nat.one_pos))
  exact congrArg (fun x => ![BitVec.toNat (w := 32) ((pf 2 : Vec F S21 .i32) x), 0]) e

theorem transform1 (i : grid0.Coords) : cc0_transform_1 k0_off1_inb numel1_S1 (tbl m) i
    = ![expertAt m (tile i), 0, if 0 < rowsAt m (tile i) ∧ rowsAt m (tile i) < 2 ^ 31 then (i 1).val else 21] := by
  unfold expertAt rowsAt
  generalize tbl m = pf
  have e := word_index i (k0_off1_inb i) (Shape.Idx.first (numel1_S1.symm ▸ Nat.one_pos))
  have e0 : cc0_transform_1 k0_off1_inb numel1_S1 (pf) i
      = ![BitVec.toNat (w := 32) ((pf 0 : Vec F S21 .i32) (ix1 (tile i))), 0, (Scalar.select (Scalar.cmpi .sgt ((pf 1 : Vec F S21 .i32) (ix1 (tile i))) 0#32) (BitVec.ofNat 32 (i 1).val) 21#32).toNat] :=
    congrArg (fun x => ![BitVec.toNat (w := 32) ((pf 0 : Vec F S21 .i32) x), 0, (Scalar.select (Scalar.cmpi .sgt ((pf 1 : Vec F S21 .i32) x) 0#32) (BitVec.ofNat 32 (i 1).val) 21#32).toNat]) e
  rw [e0]
  have h1 : (i 1).val < 22 := (i 1).isLt
  congr 3
  generalize hw : ((pf 1 : Vec F S21 .i32) (ix1 (tile i)) : BitVec 32) = w
  have hc : Scalar.cmpi .sgt w 0#32 = if 0 < w.toNat ∧ w.toNat < 2 ^ 31 then 1#1 else 0#1 := by
    show BitVec.ofBool ((0#32).slt w) = _
    have := BitVec.toInt_eq_toNat_cond w
    split <;> rename_i hh <;> simp only [BitVec.slt, BitVec.toInt_zero] <;> split at this
    · rw [decide_eq_true (by omega)]; rfl
    · omega
    · rw [decide_eq_false (by omega)]; rfl
    · rw [decide_eq_false (by omega)]; rfl
  rw [hc]
  split
  · simp [Scalar.select]; omega
  · simp [Scalar.select]

theorem transform2 (i : grid0.Coords) : cc0_transform_2 k0_off1_inb numel1_S1 (tbl m) i
    = ![expertAt m (tile i), 0, if 0 < rowsAt m (tile i) ∧ rowsAt m (tile i) < 2 ^ 31 then (i 1).val else 21] := transform1 m i

variable {m}

theorem liveAt_eq (t : Fin grid0.N) : liveAt m t = rowsAt m (tile (grid0.coords t)) :=
  congrArg (fun x => BitVec.toNat (w := 32) ((tbl m 1 : Vec F S21 .i32) x)) (word_index (grid0.coords t) (k0_off1_inb (grid0.coords t)) (Shape.Idx.first (numel1_S1.symm ▸ Nat.one_pos)))

theorem Planned.live (h : Planned m) : LiveOk m := fun t => by
  rw [liveAt_eq]
  exact Plan.InRange.live h _

/-- A live tile's weight block lies inside the padded array. -/
theorem Planned.weight_inside (h : Planned m) (i : grid0.Coords) (a : Fin 3) :
    ((![expertAt m (tile i), 0, if 0 < rowsAt m (tile i) ∧ rowsAt m (tile i) < 2 ^ 31 then (i 1).val else 21] : Fin 3 → ℕ) a + 1) * S1x4096x256.size a ≤ S8x4096x5632.size a := by
  have := h.expert (tile i)
  have h1 : (i 1).val < 22 := (i 1).isLt
  fin_cases a
  · show (expertAt m (tile i) + 1) * 1 ≤ 8
    have : expertAt m (tile i) < 8 := this
    omega
  · show (0 + 1) * 4096 ≤ 4096
    omega
  · show ((if _ then _ else _) + 1) * 256 ≤ 5632
    split <;> omega

theorem Planned.ok (h : Planned m) : Ok m := by
  refine ⟨fun i => ⟨fun a => ?_, .inr ?_⟩, fun i => ⟨fun a => ?_, .inl rfl⟩, fun i => ⟨fun a => ?_, .inl rfl⟩⟩
  · rw [transform0]
    have := h.source (tile i)
    fin_cases a
    · show (sourceAt m (tile i) + 1) * 1280 ≤ 26880
      have : sourceAt m (tile i) < 21 := this
      omega
    · show (0 + 1) * 4096 ≤ 4096
      omega
  · refine Rect.PackedRows.wholeWords (.inr ⟨by decide, rfl, .inl ⟨?_, ?_⟩⟩)
    · show 2 ∣ cc0_transform_0 k0_off1_inb numel1_S1 (tbl m) i 0 * 1280
      omega
    · show 2 ∣ 1280
      decide
  · rw [transform1]; exact h.weight_inside i a
  · rw [transform2]; exact h.weight_inside i a

end

variable (m : (ℓ : Loc nD τ sig) → Buf (Elt Ideal) ℓ) (hO : Ok m) (c : Dev nD)

/-- The result, from the padded weights: in a tile's live rows the gated product with the tile's expert, zero below them. -/
def result (T0 T1 : IVec Plan.Tiles 32) (X : Vec Ideal S26880x4096 .bf16) (W U : Vec Ideal S8x4096x5632 .f32) : Vec Ideal S26880x5504 .bf16 := fun y =>
  if (y 0).val % 1280 < 128 * (T1 (ix1 ⟨(y 0).val / 1280, by have : (y 0).val < 26880 := (y 0).isLt; omega⟩)).toNat
  then gated (∑ k : Fin 4096, X (ix2 (y 0) k) * W (ix3 ⟨(T0 (ix1 ⟨(y 0).val / 1280, by have : (y 0).val < 26880 := (y 0).isLt; omega⟩)).toNat % 8, Nat.mod_lt _ (by norm_num)⟩ k ⟨(y 1).val, by have : (y 1).val < 5504 := (y 1).isLt; omega⟩))
    (∑ k : Fin 4096, X (ix2 (y 0) k) * U (ix3 ⟨(T0 (ix1 ⟨(y 0).val / 1280, by have : (y 0).val < 26880 := (y 0).isLt; omega⟩)).toNat % 8, Nat.mod_lt _ (by norm_num)⟩ k ⟨(y 1).val, by have : (y 1).val < 5504 := (y 1).isLt; omega⟩)) else 0

theorem index0 (t : Fin grid0.N) : ((cfgM m hO).win 0).index t = ![sourceAt m (tile (grid0.coords t)), 0] := transform0 m (grid0.coords t)
theorem index1 (t : Fin grid0.N) : ((cfgM m hO).win 1).index t
    = ![expertAt m (tile (grid0.coords t)), 0, if 0 < rowsAt m (tile (grid0.coords t)) ∧ rowsAt m (tile (grid0.coords t)) < 2 ^ 31 then (grid0.coords t 1).val else 21] := transform1 m (grid0.coords t)
theorem index2 (t : Fin grid0.N) : ((cfgM m hO).win 2).index t
    = ![expertAt m (tile (grid0.coords t)), 0, if 0 < rowsAt m (tile (grid0.coords t)) ∧ rowsAt m (tile (grid0.coords t)) < 2 ^ 31 then (grid0.coords t 1).val else 21] := transform2 m (grid0.coords t)
theorem index3 (t : Fin grid0.N) : ((cfgM m hO).win 3).index t = ![(grid0.coords t 0).val, (grid0.coords t 1).val] := by
  have h0 : (grid0.coords t 0).val < 21 := (grid0.coords t 0).isLt
  have h1 : (grid0.coords t 1).val < 22 := (grid0.coords t 1).isLt
  show ![(BitVec.ofNat 32 (grid0.coords t 0).val).toNat, (BitVec.ofNat 32 (grid0.coords t 1).val).toNat] = _
  simp only [BitVec.toNat_ofNat]
  rw [Nat.mod_eq_of_lt (by omega), Nat.mod_eq_of_lt (by omega)]

theorem rows_block (h : Planned m) (t : Fin grid0.N) (hl : 0 < rowsAt m (tile (grid0.coords t))) (r : Fin 1280) (k : Fin 4096) :
    (iblk m hO c 0 t : Vec Ideal S1280x4096 .bf16) (ix2 r k)
      = (V m c main_arg3 : Vec Ideal S26880x4096 .bf16) (ix2 ⟨1280 * (grid0.coords t 0).val + r.val, by have : (grid0.coords t 0).val < 21 := (grid0.coords t 0).isLt; omega⟩ k) := by
  have e : sourceAt m (tile (grid0.coords t)) = (grid0.coords t 0).val := Plan.InRange.own h _ hl
  blk_ext [iblk, index0 m hO t, e]

theorem weight_block (h : Planned m) (t : Fin grid0.N) (hl : 0 < rowsAt m (tile (grid0.coords t))) (k : Fin 4096) (n : Fin 256) :
    (iblk m hO c 1 t : Vec Ideal S1x4096x256 .f32) (ix3 0 k n)
      = (V m c main_v0 : Vec Ideal S8x4096x5632 .f32) (ix3 ⟨expertAt m (tile (grid0.coords t)) % 8, Nat.mod_lt _ (by norm_num)⟩ k
        ⟨256 * (grid0.coords t 1).val + n.val, by have : (grid0.coords t 1).val < 22 := (grid0.coords t 1).isLt; omega⟩) := by
  have e0 : expertAt m (tile (grid0.coords t)) < 8 := Plan.InRange.expert h _
  have e1 : rowsAt m (tile (grid0.coords t)) ≤ 10 := Plan.InRange.live h _
  have e := index1 m hO t
  rw [if_pos ⟨hl, by omega⟩, ← Nat.mod_eq_of_lt e0] at e
  blk_ext [iblk, e]

theorem up_block (h : Planned m) (t : Fin grid0.N) (hl : 0 < rowsAt m (tile (grid0.coords t))) (k : Fin 4096) (n : Fin 256) :
    (iblk m hO c 2 t : Vec Ideal S1x4096x256 .f32) (ix3 0 k n)
      = (V m c main_v1 : Vec Ideal S8x4096x5632 .f32) (ix3 ⟨expertAt m (tile (grid0.coords t)) % 8, Nat.mod_lt _ (by norm_num)⟩ k
        ⟨256 * (grid0.coords t 1).val + n.val, by have : (grid0.coords t 1).val < 22 := (grid0.coords t 1).isLt; omega⟩) := by
  have e0 : expertAt m (tile (grid0.coords t)) < 8 := Plan.InRange.expert h _
  have e1 : rowsAt m (tile (grid0.coords t)) ≤ 10 := Plan.InRange.live h _
  have e := index2 m hO t
  rw [if_pos ⟨hl, by omega⟩, ← Nat.mod_eq_of_lt e0] at e
  blk_ext [iblk, e]

theorem outs_apply (hL : LiveOk m) (t : Fin grid0.N) (y : S1280x256.Idx) :
    outsAt0 m hO c t y = blk (liveAt m t) (iblk m hO c 0 t) (iblk m hO c 1 t) (iblk m hO c 2 t) y := by
  unfold outsAt0
  exact View.read_writes_apply_of_pieces _ _ _ _ (pieces_part (liveAt m t) (hL t) _ _ _ _ _ _ _ _ _) y (cover (liveAt m t) (hL t) _ _ _ _ _ _ _ _ _ y)

theorem point (a : Fin 21) (b : Fin 22) : ∃ t : Fin grid0.N, (grid0.coords t 0).val = a.val ∧ (grid0.coords t 1).val = b.val := by
  have h : ∀ (a : Fin 21) (b : Fin 22), (grid0.coords (⟨22 * a.val + b.val, by have : grid0.N = 462 := by decide +kernel
                                                                               omega⟩ : Fin grid0.N) 0).val = a.val ∧ (grid0.coords (⟨22 * a.val + b.val, by have : grid0.N = 462 := by decide +kernel
                                                                                                                                                             omega⟩ : Fin grid0.N) 1).val = b.val := by decide +kernel
  exact ⟨_, h a b⟩

/-- A transfer moves the whole block or reaches the array's end. -/
theorem extent_full (ix k d : ℕ) : (Pipeline.Clip.of ix k d).extent k = k ∨ d ≤ ix * k + (Pipeline.Clip.of ix k d).extent k := by
  unfold Pipeline.Clip.of
  split
  · exact .inl rfl
  · refine .inr ?_
    show d ≤ ix * k + (d - ix * k)
    omega

theorem covers (hO : Ok m) : ((cfgM m hO).win 3).Covers := by
  refine ⟨fun a => ?_, fun β => ?_⟩
  · fin_cases a
    · exact (by decide : 0 < 1280)
    · exact (by decide : 0 < 256)
  obtain ⟨t, h0, h1⟩ := point ⟨(β ⟨0, (by decide : 0 < 2)⟩).val, Nat.lt_of_lt_of_le (β ⟨0, (by decide : 0 < 2)⟩).isLt (by show (26880 + 1280 - 1) / 1280 ≤ 21; decide)⟩
    ⟨(β ⟨1, (by decide : 1 < 2)⟩).val, Nat.lt_of_lt_of_le (β ⟨1, (by decide : 1 < 2)⟩).isLt (by show (5504 + 256 - 1) / 256 ≤ 22; decide)⟩
  refine ⟨t, flush0_3 (adm m hO) t, fun a => ⟨?_, extent_full _ _ _⟩⟩
  rw [index3]
  fin_cases a
  · exact h0
  · exact h1

/-- The row of the array at which a block's row lies. -/
abbrev rowOf (i : grid0.Coords) (r : Fin 1280) : Fin 26880 := ⟨1280 * (i 0).val + r.val, by have : (i 0).val < 21 := (i 0).isLt; omega⟩

theorem coordinates (y : S1280x256.Idx) : ∃ (r : Fin 1280) (n : Fin 256), y = ix2 r n := ⟨y 0, y 1, by funext a; fin_cases a <;> rfl⟩

/-- One block of the result, at the columns that the array has. -/
theorem block_eq (h : Planned m) (t : Fin grid0.N) (r : Fin 1280) (n : Fin 256) (hn : 256 * (grid0.coords t 1).val + n.val < 5504) :
    blk (liveAt m t) (iblk m hO c 0 t) (iblk m hO c 1 t) (iblk m hO c 2 t) (ix2 r n)
      = result (tbl m 0) (tbl m 1) (V m c main_arg3) (V m c main_v0) (V m c main_v1)
        (ix2 (rowOf (grid0.coords t) r) ⟨256 * (grid0.coords t 1).val + n.val, hn⟩) := by
  obtain rfl : c = 0 := Subsingleton.elim _ _
  have h0 : (grid0.coords t 0).val < 21 := (grid0.coords t 0).isLt
  have ht : ∀ q, (⟨(rowOf (grid0.coords t) r).val / 1280, q⟩ : Fin 21) = tile (grid0.coords t) := fun q => Fin.ext (by
    show (1280 * (grid0.coords t 0).val + r.val) / 1280 = (grid0.coords t 0).val
    omega)
  have hr : (rowOf (grid0.coords t) r).val % 1280 = r.val := by
    show (1280 * (grid0.coords t 0).val + r.val) % 1280 = r.val
    omega
  rw [liveAt_eq]
  show (if r.val < 128 * rowsAt m (tile (grid0.coords t)) then _ else _) = if (rowOf (grid0.coords t) r).val % 1280 < _ then _ else _
  rw [hr]
  simp only [ix2, Matrix.cons_val_zero, ht]
  by_cases hl : r.val < 128 * rowsAt m (tile (grid0.coords t))
  · refine (if_pos hl).trans (Eq.trans ?_ (if_pos hl).symm)
    have hl' : 0 < rowsAt m (tile (grid0.coords t)) := by omega
    exact congrArg₂ gated
      (Finset.sum_congr rfl fun k _ => congrArg₂ (fun a b : EReal => a * b) (rows_block m hO 0 h t hl' r k) (weight_block m hO 0 h t hl' k n))
      (Finset.sum_congr rfl fun k _ => congrArg₂ (fun a b : EReal => a * b) (rows_block m hO 0 h t hl' r k) (up_block m hO 0 h t hl' k n))
  · exact (if_neg hl).trans (if_neg hl).symm

/-- THE RESULT ARRAY. -/
theorem array_eq (h : Planned m) : (dats m hO 0 c).arrAt 3 (cfgM m hO).N
    = result (tbl m 0) (tbl m 1) (V m c main_arg3) (V m c main_v0) (V m c main_v1) := by
  refine (dats m hO 0 c).arrAt_eq_of_covers 3 _ (covers m hO) fun t hf y => ?_
  blk_simp
  rw [after0_3]
  refine (outs_apply m hO c h.live t _).trans ?_
  have e0 : ((((cfgM m hO).win 3).blk t).view.emb y (0 : Fin 2)).val = ((cfgM m hO).win 3).index t ⟨0, (by decide : 0 < 2)⟩ * 1280 + 1 * (y ⟨0, (by decide : 0 < 2)⟩).val := rfl
  have e1 : ((((cfgM m hO).win 3).blk t).view.emb y (1 : Fin 2)).val = ((cfgM m hO).win 3).index t ⟨1, (by decide : 1 < 2)⟩ * 256 + 1 * (y ⟨1, (by decide : 1 < 2)⟩).val := rfl
  have hb : ((((cfgM m hO).win 3).blk t).view.emb y (1 : Fin 2)).val < 5504 := ((((cfgM m hO).win 3).blk t).view.emb y (1 : Fin 2)).isLt
  have i0 : ((cfgM m hO).win 3).index t ⟨0, (by decide : 0 < 2)⟩ = (grid0.coords t 0).val := by rw [index3 m hO t]; rfl
  have i1 : ((cfgM m hO).win 3).index t ⟨1, (by decide : 1 < 2)⟩ = (grid0.coords t 1).val := by rw [index3 m hO t]; rfl
  obtain ⟨r, n, hx⟩ := coordinates (((cfgM m hO).win 3).xinj ((cfgM m hO).grid.coords t) y)
  have hr : (y ⟨0, (by decide : 0 < 2)⟩).val = r.val := congrArg (fun x : S1280x256.Idx => (x 0).val) hx
  have hn : (y ⟨1, (by decide : 1 < 2)⟩).val = n.val := congrArg (fun x : S1280x256.Idx => (x 1).val) hx
  rw [i0] at e0
  rw [i1] at e1
  have f0 : 1280 * (grid0.coords t 0).val + r.val = ((((cfgM m hO).win 3).blk t).view.emb y (0 : Fin 2)).val := by omega
  have f1 : 256 * (grid0.coords t 1).val + n.val = ((((cfgM m hO).win 3).blk t).view.emb y (1 : Fin 2)).val := by omega
  rw [hx]
  refine (block_eq m hO c h t r n (by omega)).trans (congrArg _ ?_)
  funext a
  apply Fin.ext
  match a with
  | ⟨0, _⟩ => exact f0
  | ⟨1, _⟩ => exact f1

end Cert.Kernel4Ideal.Gen
end
-- ==== Proof.DownRef.lean ====
/- What the reference of the experts' down projection computes: in a tile's live rows the product with the tile's expert,
   zero below them. The sum over the experts has one term that is not zero. -/
module

public import proofs.«01_k».proof.Proof.Plan
public import proofs.«01_k».proof.Proof.Gen.Reference5Ideal
public import proofs.«01_k».proof.Proof.Gen.Reference5Ideal.Run

@[expose] public section

set_option maxRecDepth 16384

noncomputable section

namespace Cert.Reference5Ideal.Down

open Idealize.ShloMosaic Idealize.ShloMosaic.TcCoe Cert.Reference5Ideal Cert.Reference5Ideal.Gen Cert.Reference5Ideal.Facts

/-- The weight of each row for each expert, as the reference computes it. -/
def weight (T0 T1 : IVec S21 32) : FVec Ideal S26880x8 .f32 :=
  select (broadcastInDim S26880x8 ![0, 1] bcast_S26880x1_S26880x8_0_1 (shapeCast _ (cmpi .slt (broadcastInDim S21x1280 ![0, 1] bcast_S1x1280_S21x1280_0_1 (broadcastInDim S1x1280 ![1] bcast_S1280_S1x1280_1 (iotaInDim S1280 32 0))) (broadcastInDim S21x1280 ![0, 1] bcast_S21x1_S21x1280_0_1 (muli (broadcastInDim S21x1 ![0] bcast_S21_S21x1_0 T1) (broadcastInDim S21x1 ![] bcast_S_S21x1 (constantI S_ 32 128#32))))) shapeCasts_S21x1280_S26880x1)) (uitofp .f32 (cmpi .eq (broadcastInDim S26880x8 ![0, 1] bcast_S26880x1_S26880x8_0_1 (broadcastInDim S26880x1 ![0] bcast_S26880_S26880x1_0 (shapeCast _ (broadcastInDim S21x1280 ![0] bcast_S21_S21x1280_0 T0) shapeCasts_S21x1280_S26880))) (broadcastInDim S26880x8 ![0, 1] bcast_S1x8_S26880x8_0_1 (iotaInDim S1x8 32 1)))) (broadcastInDim S26880x8 ![] bcast_S_S26880x8 (id (constant S_ .f32 0x00000000#32)))

theorem weight_apply (T0 T1 : IVec S21 32) (r : Fin 26880) (e : Fin 8) (h1 : (T1 (ix1 ⟨r.val / 1280, by omega⟩)).toNat ≤ 10) :
    weight T0 T1 (ix2 r e) = if r.val % 1280 < 128 * (T1 (ix1 ⟨r.val / 1280, by omega⟩)).toNat
      then if (T0 (ix1 ⟨r.val / 1280, by omega⟩)).toNat = e.val then 1 else 0 else (0 : EReal) := by
  pointwise [weight]
  have hz : (id (constant (F := Ideal) S_ FTy.f32 0#32) ix0 : EReal) = 0 := by
    show Ideal.ofBits .f32 0#32 = 0
    simp [Ideal.ofBits, Ideal.ieee]
  rw [hz]
  generalize hw : (T1 (ix1 ⟨r.val / 1280, by omega⟩) : BitVec 32) = w at h1 ⊢
  generalize (T0 (ix1 ⟨r.val / 1280, by omega⟩) : BitVec 32) = v
  have hmul : (IntOp.muli w 128#32).toNat = 128 * w.toNat := by
    show (w * 128#32).toNat = _
    rw [BitVec.toNat_mul]; simp; omega
  have hlt : IntOp.cmpi .slt (BitVec.ofNat 32 (r.val % 1280)) (IntOp.muli w 128#32) = if r.val % 1280 < 128 * w.toNat then 1#1 else 0#1 := by
    have e1 : (BitVec.ofNat 32 (r.val % 1280)).toNat = r.val % 1280 := by simp; omega
    show BitVec.ofBool (BitVec.slt _ _) = _
    rw [BitVec.slt, BitVec.toInt_eq_toNat_of_lt (by rw [e1]; omega), BitVec.toInt_eq_toNat_of_lt (by rw [hmul]; omega), e1, hmul]
    split
    · rw [decide_eq_true (by omega)]; rfl
    · rw [decide_eq_false (by omega)]; rfl
  have heq : IntOp.cmpi .eq v (BitVec.ofNat 32 e.val) = if v.toNat = e.val then 1#1 else 0#1 := by
    have e1 : (BitVec.ofNat 32 e.val).toNat = e.val := by simp; omega
    rw [WordCmp.cmpi_eq_eq_toNat, e1]
    split
    · rw [decide_eq_true (by assumption)]; rfl
    · rw [decide_eq_false (by assumption)]; rfl
  rw [hlt, heq]
  split
  · refine (show Scalar.select 1#1 _ _ = _ from if_pos rfl).trans ?_
    split
    · show ((((1#1 : BitVec 1).toNat : ℕ) : ℝ) : EReal) = 1
      simp
    · show ((((0#1 : BitVec 1).toNat : ℕ) : ℝ) : EReal) = 0
      simp
  · exact if_neg (by decide)

/-- The sum over the experts against a row's weights: the expert's own term in a live row, zero in the others. -/
theorem weighted (T0 T1 : IVec S21 32) (r : Fin 26880) (h0 : (T0 (ix1 ⟨r.val / 1280, by omega⟩)).toNat < 8) (h1 : (T1 (ix1 ⟨r.val / 1280, by omega⟩)).toNat ≤ 10) (f : Fin 8 → EReal) :
    ∑ e : Fin 8, weight T0 T1 (ix2 r e) * f e = if r.val % 1280 < 128 * (T1 (ix1 ⟨r.val / 1280, by omega⟩)).toNat
      then f ⟨(T0 (ix1 ⟨r.val / 1280, by omega⟩)).toNat % 8, Nat.mod_lt _ (by norm_num)⟩ else 0 := by
  simp only [weight_apply T0 T1 r _ h1]
  split
  · rw [Finset.sum_eq_single ⟨(T0 (ix1 ⟨r.val / 1280, by omega⟩)).toNat % 8, Nat.mod_lt _ (by norm_num)⟩]
    · rw [if_pos (Nat.mod_eq_of_lt h0).symm, one_mul]
    · intro e _ he
      rw [if_neg, zero_mul]
      intro hh
      exact he (Fin.ext (by show e.val = _ % 8; omega))
    · exact fun h => absurd (Finset.mem_univ _) h
  · exact Finset.sum_eq_zero fun e _ => zero_mul _

/-- The reference's result. -/
def result (T0 T1 : IVec S21 32) (X : FVec Ideal S26880x5504 .bf16) (W : FVec Ideal S8x5504x4096 .f32) : FVec Ideal S26880x4096 .f32 :=
  Host.dotGeneral dot_S26880x8_S26880x8x4096_S26880x4096_1_1_n_2_0_0 none (weight T0 T1) (Host.dotGeneral dot_S26880x5504_S8x5504x4096_S26880x8x4096_1_1_0_02_n_n none (extf .f32 X bitsLt_bf16_f32) W)

theorem result_apply (T0 T1 : IVec S21 32) (X : FVec Ideal S26880x5504 .bf16) (W : FVec Ideal S8x5504x4096 .f32) (r : Fin 26880) (n : Fin 4096)
    (h0 : (T0 (ix1 ⟨r.val / 1280, by omega⟩)).toNat < 8) (h1 : (T1 (ix1 ⟨r.val / 1280, by omega⟩)).toNat ≤ 10) :
    result T0 T1 X W (ix2 r n) = if r.val % 1280 < 128 * (T1 (ix1 ⟨r.val / 1280, by omega⟩)).toNat
      then ∑ k : Fin 5504, X (ix2 r k) * W (ix3 ⟨(T0 (ix1 ⟨r.val / 1280, by omega⟩)).toNat % 8, Nat.mod_lt _ (by norm_num)⟩ k n) else 0 := by
  refine Eq.trans ?_ (weighted T0 T1 r h0 h1 fun e => ∑ k : Fin 5504, X (ix2 r k) * W (ix3 e k n))
  unfold result
  pointwise []

end Cert.Reference5Ideal.Down
end
-- ==== Proof.UpRef.lean ====
/- What the reference of the experts' gated product computes: in a tile's live rows the gated product with the tile's
   expert, zero below them. -/
module

public import proofs.«01_k».proof.Proof.DownRef
public import proofs.«01_k».proof.Proof.UpValue
public import proofs.«01_k».proof.Proof.Gen.Reference4Ideal
public import proofs.«01_k».proof.Proof.Gen.Reference4Ideal.Run

@[expose] public section

set_option maxRecDepth 16384

noncomputable section

namespace Cert.Reference4Ideal.Up

open Idealize.ShloMosaic Idealize.ShloMosaic.TcCoe Cert.Reference4Ideal Cert.Reference4Ideal.Gen Cert.Reference4Ideal.Facts
open Cert.Kernel4Ideal.Gen (gated)
open Cert.Reference5Ideal.Down (weight weighted)

/-- The product of every row with every expert's weights. -/
def product (X : FVec Ideal S26880x4096 .bf16) (W : FVec Ideal S8x4096x5504 .f32) : FVec Ideal S26880x8x5504 .f32 :=
  Host.dotGeneral dot_S26880x4096_S8x4096x5504_S26880x8x5504_1_1_0_02_n_n none (extf .f32 X bitsLt_bf16_f32) W

theorem product_apply (X : FVec Ideal S26880x4096 .bf16) (W : FVec Ideal S8x4096x5504 .f32) (r : Fin 26880) (e : Fin 8) (n : Fin 5504) :
    product X W (ix3 r e n) = ∑ k : Fin 4096, X (ix2 r k) * W (ix3 e k n) := by
  pointwise [product]

/-- Every row's gated product with every expert. -/
def act (X : FVec Ideal S26880x4096 .bf16) (W U : FVec Ideal S8x4096x5504 .f32) : FVec Ideal S26880x8x5504 .f32 :=
  mulf (mulf (product X W) (Host.divf (broadcastInDim S26880x8x5504 ![] bcast_S_S26880x8x5504 (constant S_ .f32 0x3F800000#32))
    (addf (broadcastInDim S26880x8x5504 ![] bcast_S_S26880x8x5504 (constant S_ .f32 0x3F800000#32)) (Host.exp (Host.negf (product X W)))))) (product X U)

theorem act_apply (X : FVec Ideal S26880x4096 .bf16) (W U : FVec Ideal S8x4096x5504 .f32) (r : Fin 26880) (e : Fin 8) (n : Fin 5504) :
    act X W U (ix3 r e n) = gated (∑ k : Fin 4096, X (ix2 r k) * W (ix3 e k n)) (∑ k : Fin 4096, X (ix2 r k) * U (ix3 e k n)) := by
  rw [← product_apply, ← product_apply]
  pointwise [act]
  rfl

/-- The reference's result. -/
def result (T0 T1 : IVec S21 32) (X : FVec Ideal S26880x4096 .bf16) (W U : FVec Ideal S8x4096x5504 .f32) : FVec Ideal S26880x5504 .bf16 :=
  truncf .bf16 (Host.dotGeneral dot_S26880x8_S26880x8x5504_S26880x5504_1_1_n_2_0_0 none (weight T0 T1) (act X W U)) bitsLt_bf16_f32

/-- The padding value is zero. -/
theorem zero_int : FloatOps.sitofp (F := Ideal) .f32 0#32 = (0 : EReal) := by
  show (((0#32 : BitVec 32).toInt : ℝ) : EReal) = 0
  simp

theorem result_apply (T0 T1 : IVec S21 32) (X : FVec Ideal S26880x4096 .bf16) (W U : FVec Ideal S8x4096x5504 .f32) (r : Fin 26880) (n : Fin 5504)
    (h0 : (T0 (ix1 ⟨r.val / 1280, by omega⟩)).toNat < 8) (h1 : (T1 (ix1 ⟨r.val / 1280, by omega⟩)).toNat ≤ 10) :
    result T0 T1 X W U (ix2 r n) = if r.val % 1280 < 128 * (T1 (ix1 ⟨r.val / 1280, by omega⟩)).toNat
      then gated (∑ k : Fin 4096, X (ix2 r k) * W (ix3 ⟨(T0 (ix1 ⟨r.val / 1280, by omega⟩)).toNat % 8, Nat.mod_lt _ (by norm_num)⟩ k n))
        (∑ k : Fin 4096, X (ix2 r k) * U (ix3 ⟨(T0 (ix1 ⟨r.val / 1280, by omega⟩)).toNat % 8, Nat.mod_lt _ (by norm_num)⟩ k n)) else 0 := by
  have h : result T0 T1 X W U (ix2 r n) = ∑ e : Fin 8, weight T0 T1 (ix2 r e) * act X W U (ix3 r e n) := by
    pointwise [result]
  rw [h]
  simp only [act_apply]
  exact weighted T0 T1 r h0 h1 fun e => gated (∑ k : Fin 4096, X (ix2 r k) * W (ix3 e k n)) (∑ k : Fin 4096, X (ix2 r k) * U (ix3 e k n))

end Cert.Reference4Ideal.Up
end
-- ==== Proof.UpClaim.lean ====
/- The claims about the experts' gated product: both programs run and leave their arguments, and the result is the
   reference's. -/
module

public import proofs.«01_k».proof.Proof.UpArray
public import proofs.«01_k».proof.Proof.UpRef
public import proofs.«01_k».proof.Proof.Gen.Kernel4
public import Idealize.ShloMosaic.Lib.Quiescent

@[expose] public section

noncomputable section

namespace Cert.Proof

open Idealize.ShloMosaic Idealize.ShloMosaic.TcCoe Idealize.SL.Sem

/-- The two programs have the same body table: their texts are the same. -/
theorem up_bodies_same : Cert.Kernel4.defs₀ (F := Bits) = Cert.Kernel4Ideal.defs₀ (F := Bits) :=
  congrArg Defs.onTc (funext fun l => funext fun a => match l, a with
    | 0, (_, _) => rfl
    | ⟨_ + 1, h⟩, _ => absurd h (Nat.not_lt.2 (Nat.le_add_left _ _)))

theorem up_defs_same : Cert.Kernel4.defs (F := Bits) = Cert.Kernel4Ideal.defs (F := Bits) :=
  congrArg (Pipeline.defs (Cert.Kernel4Ideal.pcfgs (F := Bits))) up_bodies_same

set_option maxHeartbeats 1000000 in
/-- … and so are the programs that run before the launch. -/
theorem up_mains_same : Cert.Kernel4.main (F := Bits) = Cert.Kernel4Ideal.main (F := Bits) := by
  unfold Cert.Kernel4.main Cert.Kernel4Ideal.main
  rfl

attribute [local irreducible] Cert.Kernel4Ideal.Gen.V

/-- The tables that the region finds are the arguments. -/
theorem up_planned {F : FTy → Type} [FloatOps F] (m : (ℓ : Loc Cert.Kernel4Ideal.nD Cert.Kernel4Ideal.τ Cert.Kernel4Ideal.sig) → Buf (Elt F) ℓ)
    (h : Plan.InRange (m (((0 : Dev Cert.Kernel4Ideal.nD).tc : Thread Cert.Kernel4Ideal.nD Cert.Kernel4Ideal.τ).loc Cert.Kernel4Ideal.main_arg0))
      (m (((0 : Dev Cert.Kernel4Ideal.nD).tc : Thread Cert.Kernel4Ideal.nD Cert.Kernel4Ideal.τ).loc Cert.Kernel4Ideal.main_arg1))
      (m (((0 : Dev Cert.Kernel4Ideal.nD).tc : Thread Cert.Kernel4Ideal.nD Cert.Kernel4Ideal.τ).loc Cert.Kernel4Ideal.main_arg2))) : Cert.Kernel4Ideal.Gen.Planned m := by
  have e0 : Cert.Kernel4Ideal.Gen.tbl m 0 = m (((0 : Dev Cert.Kernel4Ideal.nD).tc : Thread Cert.Kernel4Ideal.nD Cert.Kernel4Ideal.τ).loc Cert.Kernel4Ideal.main_arg0) := Cert.Kernel4Ideal.Gen.V_main_arg0 m 0
  have e1 : Cert.Kernel4Ideal.Gen.tbl m 1 = m (((0 : Dev Cert.Kernel4Ideal.nD).tc : Thread Cert.Kernel4Ideal.nD Cert.Kernel4Ideal.τ).loc Cert.Kernel4Ideal.main_arg1) := Cert.Kernel4Ideal.Gen.V_main_arg1 m 0
  have e2 : Cert.Kernel4Ideal.Gen.tbl m 2 = m (((0 : Dev Cert.Kernel4Ideal.nD).tc : Thread Cert.Kernel4Ideal.nD Cert.Kernel4Ideal.τ).loc Cert.Kernel4Ideal.main_arg2) := Cert.Kernel4Ideal.Gen.V_main_arg2 m 0
  exact (congr (congrArg₂ (fun a b c : IVec Plan.Tiles 32 => Plan.InRange a b c) e0 e1) e2).mpr h

/-- The experts' gated product runs, leaves its arguments as they were and ends at rest, over machine floats … -/
theorem up_frame : Cert.quiescent_Kernel4 := fun m ρ hpre => by
  have h : Cert.Kernel4Ideal.Gen.Planned (F := Bits) m := up_planned m (Cert.Plan.inRange4 _ _ _ _ _ _ (hpre 0))
  rw [up_defs_same, up_mains_same]
  exact Cert.Kernel4Ideal.Gen.frame (F := Bits) m ρ h.ok h.live

/-- … over the reals … -/
theorem up_frame_ideal : Cert.quiescent_Kernel4Ideal := fun m ρ hpre => by
  have h : Cert.Kernel4Ideal.Gen.Planned (F := Ideal) m := up_planned m (Cert.Plan.inRange4 _ _ _ _ _ _ (hpre 0))
  exact Cert.Kernel4Ideal.Gen.frame m ρ h.ok h.live

/-- … and so does the reference. -/
theorem up_frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The padded weights: the weights, and zero past their last column. -/
theorem padded_apply (W : FVec Ideal Cert.Kernel4Ideal.S8x4096x5504 .f32) (e : Fin 8) (k : Fin 4096) (n : Fin 5632) :
    Cert.Kernel4Ideal.Gen.padded W (ix3 e k n) = if h : n.val < 5504 then W (ix3 e k ⟨n.val, h⟩) else (0 : EReal) := by
  pointwise [Cert.Kernel4Ideal.Gen.padded]
  simp only [Cert.Reference4Ideal.Up.zero_int]

/-- The kernel's array is the reference's. -/
theorem up_arrays (T0 T1 T2 : IVec Plan.Tiles 32) (h : Plan.InRange T0 T1 T2) (X : FVec Ideal Cert.Kernel4Ideal.S26880x4096 .bf16) (W U : FVec Ideal Cert.Kernel4Ideal.S8x4096x5504 .f32) :
    Cert.Reference4Ideal.Up.result T0 T1 X W U = Cert.Kernel4Ideal.Gen.result T0 T1 X (Cert.Kernel4Ideal.Gen.padded W) (Cert.Kernel4Ideal.Gen.padded U) := by
  funext y
  obtain ⟨r, n, rfl⟩ : ∃ (r : Fin 26880) (n : Fin 5504), y = ix2 r n := ⟨y 0, y 1, by funext a; fin_cases a <;> rfl⟩
  refine (Cert.Reference4Ideal.Up.result_apply T0 T1 X W U r n (h.expert _) (h.live _)).trans ?_
  show _ = if r.val % 1280 < _ then Cert.Kernel4Ideal.Gen.gated (∑ k : Fin 4096, X (ix2 r k) * Cert.Kernel4Ideal.Gen.padded W (ix3 _ k ⟨n.val, _⟩))
    (∑ k : Fin 4096, X (ix2 r k) * Cert.Kernel4Ideal.Gen.padded U (ix3 _ k ⟨n.val, _⟩)) else 0
  simp only [padded_apply, n.isLt, dif_pos]
  rfl

/-- THE EXPERTS' GATED PRODUCT: the kernel's result is the reference's. -/
theorem up_value : Cert.algebraic_Kernel4Ideal_Reference4Ideal := by
  intro m ρ m' ρ' hpre hagree
  have h : Cert.Kernel4Ideal.Gen.Planned (F := Ideal) m := up_planned m (Cert.Plan.inRange4 _ _ _ _ _ _ (hpre 0))
  refine ⟨fun c => Cert.Kernel4Ideal.Gen.result (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg3)) (Cert.Kernel4Ideal.Gen.padded (F := Ideal) (m ((c.tc : Thread Cert.Kernel4Ideal.nD Cert.Kernel4Ideal.τ).loc Cert.Kernel4Ideal.main_arg4)))
    (Cert.Kernel4Ideal.Gen.padded (F := Ideal) (m ((c.tc : Thread Cert.Kernel4Ideal.nD Cert.Kernel4Ideal.τ).loc Cert.Kernel4Ideal.main_arg5))), ?_, ?_⟩
  · refine (θ_run Cert.Kernel4Ideal.defs _ _).mono (fun r hr c => ⟨(((hr.1 c).1 3).trans (Cert.Kernel4Ideal.Gen.array_eq m h.ok c h)).trans ?_, hr.2 c⟩)
      (θ_run_and (Cert.Kernel4Ideal.Gen.run_main m ρ h.ok h.live) (Cert.Kernel4Ideal.Gen.unchanged m ρ h.ok h.live))
    obtain rfl : c = 0 := Subsingleton.elim _ _
    rw [Cert.Kernel4Ideal.Gen.V_main_arg3, Cert.Kernel4Ideal.Gen.V_main_v0, Cert.Kernel4Ideal.Gen.V_main_v1]
    exact congrArg₂ (fun a b => Cert.Kernel4Ideal.Gen.result a b _ _ _) (Cert.Kernel4Ideal.Gen.V_main_arg0 m 0) (Cert.Kernel4Ideal.Gen.V_main_arg1 m 0)
  · refine (θ_run Cert.Reference4Ideal.defs _ _).mono (fun _ hr c => ⟨(hr c).1.trans ?_, (hr c).2⟩)
      (Cert.Reference4Ideal.Value.run (F := Ideal) m' ρ')
    rw [(hagree c).1, (hagree c).2.1, (hagree c).2.2.2.1, (hagree c).2.2.2.2.1, (hagree c).2.2.2.2.2]
    obtain rfl : c = 0 := Subsingleton.elim _ _
    exact up_arrays _ _ _ (Cert.Plan.inRange4 _ _ _ _ _ _ (hpre 0)) _ _ _

end Cert.Proof
end
-- ==== Proof.DownSetup.lean ====
/- The set-up of the experts' down projection (program Kernel5Ideal): the contents of memory when the region is
   entered, the prefetched tables, the windows' blocks, and the staging buffers, for any reading of floats. -/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S21 .i32 := Memref.whole main_arg0
abbrev htbM0_0 : tbM0_0.IsWhole := Memref.isWhole_whole _
abbrev tbM0_1 : Memref sig .tc .smem S21 .i32 := Memref.whole main_arg1
abbrev htbM0_1 : tbM0_1.IsWhole := Memref.isWhole_whole _
abbrev tbM0_2 : Memref sig .tc .smem S21 .i32 := Memref.whole main_arg2
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = {0, 1, 2} from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel5Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 0).trans (((dats 0 c).arrAt_in 0 rfl _).trans ((hA c 0).trans (V_main_arg3 m c))),
      ((h c).1 1).trans (((dats 0 c).arrAt_in 1 rfl _).trans ((hA c 1).trans (V_main_arg4 m c)))⟩) h

/-! ## The kernel body on any staging memrefs: a subtype the run finds -/

/-- One staging buffer of output window 2, through which its contents are stated (`View.read_writes_of_cover`: the
    choice does not matter). -/
abbrev VO0_2 : View sig .tc .vmem S1280x256 .f32 := (Memref.whole cc0_stg2_0 : Memref sig .tc .vmem S1280x256 .f32).view
/-- Each window's current staging memref at point `t`, spelled as the pipeline passes it (`bodyAt0`), and its wholeness. -/
abbrev ms0_0 (hO : Ok m) (t : Fin (cfgM m hO).N) : Memref sig .tc .vmem S1280x5504 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x5504x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1280x256 .f32 := spec0_2.stage ((cfgM m hO).slots t 2)
abbrev hs0_2 (hO : Ok m) (t : Fin (cfgM m hO).N) : (ms0_2 m hO t).IsWhole := hstage0_2 (((cfgM m hO).slots t 2).cast nbuf0_2)

/-- Window 2 (result 0 (%0)) is written back at every point, at any contents of the tables (its index map reads none). -/
theorem flush0_2 (a : (pcfg0 (F := F)).Adm) : ∀ t : Fin (cfg0 a).N, ((cfg0 a).win 2).flush t = true :=
  (fun t => (Pipeline.Window.flushOf_reads cc0_transform_2 reads0_2 hreads0_2 1 (by decide) (by decide) (Pipeline.Window.sep_of_coord cc0_transform_2 1 1 (fun _ => rfl) (by decide)) (P := 1) (m := 0) (by decide) rfl t).mpr (Nat.mod_one _) : ∀ t : Fin grid0.N, Pipeline.Window.flushOf grid0 true cc0_transform_2 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_down_grouped (grid0.coords t) (Memref.whole main_arg0) (Memref.isWhole_whole _) (Memref.whole main_arg1) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

end Cert.Kernel5Ideal.Gen

end
-- ==== Proof.DownRun.lean ====
/- One run of the body of the experts' down projection: whatever the number of live slices, which pieces it writes. -/
module

public import proofs.«01_k».proof.Proof.DownSetup
public import Mathlib.Tactic.IntervalCases

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The number of live slices of the tile: the word of the second table that the body reads. -/
abbrev live (i : grid0.Coords) (T1 : Vec F S21 .i32) : BitVec 32 :=
  tbM0_1.view.readAt (Elt F) (Rect.unit (s := S21) (k0_off1 i) S1.size (k0_off1_inb i)).toLoadRect T1 (Shape.Idx.first (numel1_S1.symm ▸ Nat.one_pos))

/-- The whole weight block as the body loads it. -/
abbrev weights (arg6 : Memref sig .tc .vmem S1x5504x256 .f32) (harg6 : arg6.IsWhole) (x1 : Vec F S1x5504x256 .f32) : Vec F S1x5504x256 .f32 :=
  View.readAt (Elt F) arg6.view (Rect.unit (s := S1x5504x256) ![0, 0, 0] S1x5504x256.size inb_S1x5504x256_S1x5504x256_0_0_0).toLoadRect (harg6.unread x1)

/-- What the body stores when `n` slices of 128 rows are live, the last store first: the product of the live rows, and
    zeros below them. -/
def pieces (n : ℕ) (arg5 : Memref sig .tc .vmem S1280x5504 .bf16) (harg5 : arg5.IsWhole) (arg6 : Memref sig .tc .vmem S1x5504x256 .f32) (harg6 : arg6.IsWhole)
    (x0 : Vec F S1280x5504 .bf16) (x1 : Vec F S1x5504x256 .f32) : List (View.Piece (Elt F) S1280x256 .f32) :=
  match n with
  | 0 => [⟨Rect.unit (s := S1280x256) ![0, 0] S1280x256.size inb_S1280x256_S1280x256_0_0, k0_pay4⟩]
  | 1 => [⟨Rect.unit (s := S1280x256) ![128, 0] S1152x256.size inb_S1280x256_S1152x256_128_0, k0_pay6⟩,
      ⟨Rect.unit (s := S1280x256) ![0, 0] S128x256.size inb_S1280x256_S128x256_0_0,
        k0_pay5 (View.readAt (Elt F) arg5.view (Rect.unit (s := S1280x5504) ![0, 0] S128x5504.size inb_S1280x5504_S128x5504_0_0).toLoadRect (harg5.unread x0)) (weights arg6 harg6 x1)⟩]
  | 2 => [⟨Rect.unit (s := S1280x256) ![256, 0] S1024x256.size inb_S1280x256_S1024x256_256_0, k0_pay8⟩,
      ⟨Rect.unit (s := S1280x256) ![0, 0] S256x256.size inb_S1280x256_S256x256_0_0,
        k0_pay7 (View.readAt (Elt F) arg5.view (Rect.unit (s := S1280x5504) ![0, 0] S256x5504.size inb_S1280x5504_S256x5504_0_0).toLoadRect (harg5.unread x0)) (weights arg6 harg6 x1)⟩]
  | 3 => [⟨Rect.unit (s := S1280x256) ![384, 0] S896x256.size inb_S1280x256_S896x256_384_0, k0_pay10⟩,
      ⟨Rect.unit (s := S1280x256) ![0, 0] S384x256.size inb_S1280x256_S384x256_0_0,
        k0_pay9 (View.readAt (Elt F) arg5.view (Rect.unit (s := S1280x5504) ![0, 0] S384x5504.size inb_S1280x5504_S384x5504_0_0).toLoadRect (harg5.unread x0)) (weights arg6 harg6 x1)⟩]
  | 4 => [⟨Rect.unit (s := S1280x256) ![512, 0] S768x256.size inb_S1280x256_S768x256_512_0, k0_pay12⟩,
      ⟨Rect.unit (s := S1280x256) ![0, 0] S512x256.size inb_S1280x256_S512x256_0_0,
        k0_pay11 (View.readAt (Elt F) arg5.view (Rect.unit (s := S1280x5504) ![0, 0] S512x5504.size inb_S1280x5504_S512x5504_0_0).toLoadRect (harg5.unread x0)) (weights arg6 harg6 x1)⟩]
  | 5 => [⟨Rect.unit (s := S1280x256) ![640, 0] S640x256.size inb_S1280x256_S640x256_640_0, k0_pay14⟩,
      ⟨Rect.unit (s := S1280x256) ![0, 0] S640x256.size inb_S1280x256_S640x256_0_0,
        k0_pay13 (View.readAt (Elt F) arg5.view (Rect.unit (s := S1280x5504) ![0, 0] S640x5504.size inb_S1280x5504_S640x5504_0_0).toLoadRect (harg5.unread x0)) (weights arg6 harg6 x1)⟩]
  | 6 => [⟨Rect.unit (s := S1280x256) ![768, 0] S512x256.size inb_S1280x256_S512x256_768_0, k0_pay16⟩,
      ⟨Rect.unit (s := S1280x256) ![0, 0] S768x256.size inb_S1280x256_S768x256_0_0,
        k0_pay15 (View.readAt (Elt F) arg5.view (Rect.unit (s := S1280x5504) ![0, 0] S768x5504.size inb_S1280x5504_S768x5504_0_0).toLoadRect (harg5.unread x0)) (weights arg6 harg6 x1)⟩]
  | 7 => [⟨Rect.unit (s := S1280x256) ![896, 0] S384x256.size inb_S1280x256_S384x256_896_0, k0_pay18⟩,
      ⟨Rect.unit (s := S1280x256) ![0, 0] S896x256.size inb_S1280x256_S896x256_0_0,
        k0_pay17 (View.readAt (Elt F) arg5.view (Rect.unit (s := S1280x5504) ![0, 0] S896x5504.size inb_S1280x5504_S896x5504_0_0).toLoadRect (harg5.unread x0)) (weights arg6 harg6 x1)⟩]
  | 8 => [⟨Rect.unit (s := S1280x256) ![1024, 0] S256x256.size inb_S1280x256_S256x256_1024_0, k0_pay20⟩,
      ⟨Rect.unit (s := S1280x256) ![0, 0] S1024x256.size inb_S1280x256_S1024x256_0_0,
        k0_pay19 (View.readAt (Elt F) arg5.view (Rect.unit (s := S1280x5504) ![0, 0] S1024x5504.size inb_S1280x5504_S1024x5504_0_0).toLoadRect (harg5.unread x0)) (weights arg6 harg6 x1)⟩]
  | 9 => [⟨Rect.unit (s := S1280x256) ![1152, 0] S128x256.size inb_S1280x256_S128x256_1152_0, k0_pay2⟩,
      ⟨Rect.unit (s := S1280x256) ![0, 0] S1152x256.size inb_S1280x256_S1152x256_0_0,
        k0_pay1 (View.readAt (Elt F) arg5.view (Rect.unit (s := S1280x5504) ![0, 0] S1152x5504.size inb_S1280x5504_S1152x5504_0_0).toLoadRect (harg5.unread x0)) (weights arg6 harg6 x1)⟩]
  | 10 => [⟨Rect.unit (s := S1280x256) ![0, 0] S1280x256.size inb_S1280x256_S1280x256_0_0,
        k0_pay3 (View.readAt (Elt F) arg5.view (Rect.unit (s := S1280x5504) ![0, 0] S1280x5504.size inb_S1280x5504_S1280x5504_0_0).toLoadRect (harg5.unread x0)) (weights arg6 harg6 x1)⟩]
  | _ => []

set_option maxHeartbeats 8000000 in
/-- The body, run with `n` live slices on whole staging buffers: it leaves its inputs as they were and writes `pieces n`
    into the output's buffer. -/
theorem run (c : Dev nD) (i : grid0.Coords) (arg5 : Memref sig .tc .vmem S1280x5504 .bf16) (harg5 : arg5.IsWhole) (arg6 : Memref sig .tc .vmem S1x5504x256 .f32) (harg6 : arg6.IsWhole) (arg7 : Memref sig .tc .vmem S1280x256 .f32) (harg7 : arg7.IsWhole)
    (x0 : Vec F S1280x5504 .bf16) (x1 : Vec F S1x5504x256 .f32) (xt0 : TbBuf0 (F := F) c tbM0_0) (xt1 : TbBuf0 (F := F) c tbM0_1) (xt2 : TbBuf0 (F := F) c tbM0_2)
    (n : ℕ) (hn : n ≤ 10) (hw : live (F := F) i xt1 = BitVec.ofNat 32 n) (E : Set ℕ) (K : PUnit → sProp 𝕄) :
    iprop(owns (c : Thread nD τ) arg5 fullShare x0 ∗ owns (c : Thread nD τ) arg6 fullShare x1 ∗ (∃ d, owns (c : Thread nD τ) arg7 fullShare d) ∗ tbPt0 c tbM0_0 xt0 ∗ tbPt0 c tbM0_1 xt1 ∗ tbPt0 c tbM0_2 xt2
        ∗ (iprop(owns (c : Thread nD τ) arg5 fullShare x0 ∗ owns (c : Thread nD τ) arg6 fullShare x1 ∗ (∃ f, arg7.view.loc (c : Thread nD τ) ↦[arg7.view.set]{fullShare} arg7.view.writes (Elt F) f (pieces n arg5 harg5 arg6 harg6 x0 x1)) ∗ tbPt0 c tbM0_0 xt0 ∗ tbPt0 c tbM0_1 xt1 ∗ tbPt0 c tbM0_2 xt2) -∗ K ⟨⟩))
      ⊢ wp frame (wpE (defs₀ (F := F)) Variants.none c none) E (cc0_down_grouped i tbM0_0 htbM0_0 tbM0_1 htbM0_1 tbM0_2 htbM0_2 arg5 harg5 arg6 harg6 arg7 harg7) K := by
  interval_cases n
  all_goals
    simp only [cc0_down_grouped_eq_skeleton]; unfold cc0_down_grouped_skel
    unfold owns
    iintro ⟨⟨%f0, %hf0, H0⟩, ⟨%f1, %hf1, H1⟩, ⟨%d2, %f2, -, H2⟩, HT0, HT1, HT2, Hk⟩
    obtain rfl := harg5.eq_unread hf0; obtain rfl := harg6.eq_unread hf1
    sl_exec (disch := first |
        (guard_target = k0_cond1 _ = _; exact (congrArg k0_cond1 hw).trans (by decide)) |
        (guard_target = ¬(k0_cond1 _ = _); exact fun h => absurd ((congrArg k0_cond1 hw).symm.trans h) (by decide)) |
        (guard_target = k0_cond2 _ = _; exact (congrArg k0_cond2 hw).trans (by decide)) |
        (guard_target = ¬(k0_cond2 _ = _); exact fun h => absurd ((congrArg k0_cond2 hw).symm.trans h) (by decide)) |
        (guard_target = k0_cond3 _ = _; exact (congrArg k0_cond3 hw).trans (by decide)) |
        (guard_target = ¬(k0_cond3 _ = _); exact fun h => absurd ((congrArg k0_cond3 hw).symm.trans h) (by decide)) |
        (guard_target = k0_cond4 _ = _; exact (congrArg k0_cond4 hw).trans (by decide)) |
        (guard_target = ¬(k0_cond4 _ = _); exact fun h => absurd ((congrArg k0_cond4 hw).symm.trans h) (by decide)) |
        (guard_target = k0_cond5 _ = _; exact (congrArg k0_cond5 hw).trans (by decide)) |
        (guard_target = ¬(k0_cond5 _ = _); exact fun h => absurd ((congrArg k0_cond5 hw).symm.trans h) (by decide)) |
        (guard_target = k0_cond6 _ = _; exact (congrArg k0_cond6 hw).trans (by decide)) |
        (guard_target = ¬(k0_cond6 _ = _); exact fun h => absurd ((congrArg k0_cond6 hw).symm.trans h) (by decide)) |
        (guard_target = k0_cond7 _ = _; exact (congrArg k0_cond7 hw).trans (by decide)) |
        (guard_target = ¬(k0_cond7 _ = _); exact fun h => absurd ((congrArg k0_cond7 hw).symm.trans h) (by decide)) |
        (guard_target = k0_cond8 _ = _; exact (congrArg k0_cond8 hw).trans (by decide)) |
        (guard_target = ¬(k0_cond8 _ = _); exact fun h => absurd ((congrArg k0_cond8 hw).symm.trans h) (by decide)) |
        (guard_target = k0_cond9 _ = _; exact (congrArg k0_cond9 hw).trans (by decide)) |
        (guard_target = ¬(k0_cond9 _ = _); exact fun h => absurd ((congrArg k0_cond9 hw).symm.trans h) (by decide)) |
        (guard_target = k0_cond10 _ = _; exact (congrArg k0_cond10 hw).trans (by decide)) |
        (guard_target = ¬(k0_cond10 _ = _); exact fun h => absurd ((congrArg k0_cond10 hw).symm.trans h) (by decide)) |
        (guard_target = k0_cond11 _ = _; exact (congrArg k0_cond11 hw).trans (by decide)) |
        (guard_target = ¬(k0_cond11 _ = _); exact fun h => absurd ((congrArg k0_cond11 hw).symm.trans h) (by decide)))
    sl_step
    iapply Hk
    isplitl [H0]
    · iexists _; isplitr; · ipureintro; exact harg5.read_unread _
      iexact H0
    isplitl [H1]
    · iexists _; isplitr; · ipureintro; exact harg6.read_unread _
      iexact H1
    isplitl [H2]; · iexists _; iexact H2
    isplitl [HT0]; · iexact HT0
    isplitl [HT1]; · iexact HT1
    iexact HT2

end Cert.Kernel5Ideal.Gen

end
-- ==== Proof.DownFrame.lean ====
/- The frame of the experts' down projection (program Kernel5Ideal), for any reading of floats: under the side condition
   of the tables and with at most ten live slices a tile, the launch ends, with its arguments unchanged and the result
   array at what the points of the grid wrote. -/
module

public import proofs.«01_k».proof.Proof.DownRun
public import Idealize.ShloMosaic.Lib.Claim

@[expose] public section

-- membership in a rectangle of production extents (`View.cover_of_tiled`): the elaborator's structural look
-- recurses once per coordinate of the long axes
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Whatever the number of live slices, the pieces cover the block. -/
theorem cover (n : ℕ) (hn : n ≤ 10) (arg5 : Memref sig .tc .vmem S1280x5504 .bf16) (harg5 : arg5.IsWhole) (arg6 : Memref sig .tc .vmem S1x5504x256 .f32) (harg6 : arg6.IsWhole)
    (x0 : Vec F S1280x5504 .bf16) (x1 : Vec F S1x5504x256 .f32) (y : S1280x256.Idx) :
    ∃ pc ∈ pieces n arg5 harg5 arg6 harg6 x0 x1, y ∈ pc.1.set := by
  interval_cases n <;> exact View.cover_of_tiledBy (pieces _ arg5 harg5 arg6 harg6 x0 x1) ![128, 256] (by sl_kernel_rfl) y

/-- The number of live slices of the tile at point `t`, as the body reads it. -/
def liveAt (t : Fin grid0.N) : ℕ := (live (F := F) (grid0.coords t) (tbl m 1)).toNat

theorem liveAt_spec (c : Dev nD) (t : Fin grid0.N) : live (F := F) (grid0.coords t) (tbl m 1) = BitVec.ofNat 32 (liveAt m t) := by
  unfold liveAt; simp

/-- No tile has more than ten live slices. -/
abbrev LiveOk : Prop := ∀ t : Fin grid0.N, liveAt m t ≤ 10

/-- What the output's staging buffer holds after the body at point `t`. -/
def outsAt0 (hO : Ok m) (c : Dev nD) (t : Fin (cfgM m hO).N) : Vec F S1280x256 .f32 :=
  VO0_2.read (Elt F) (VO0_2.writes (Elt F) VO0_2.junk (pieces (liveAt m t) (ms0_0 m hO t) (hs0_0 m hO t) (ms0_1 m hO t) (hs0_1 m hO t) (iblk m hO c 0 t) (iblk m hO c 1 t)))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

set_option maxHeartbeats 800000 in
/-- The body at any point: the inputs' memrefs hold their blocks (`before0_W`); so the
    run applies; the invariant passes through unread; the core owes nothing throughout. -/
theorem sound_body (hO : Ok m) (hL : LiveOk m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1, HT2⟩⟩, Ho, ⟨%d0, H0⟩, ⟨%d1, H1⟩, ⟨%d2, H2⟩⟩
  iapply (run c (grid0.coords t) _ _ _ _ _ _ (iblk m hO c 0 t) (iblk m hO c 1 t) (tbl m 0) (tbl m 1) (tbl m 2) (liveAt m t) (hL t) (liveAt_spec m c t) Set.univ _)
  isplitl [H0]; · iexact H0
  isplitl [H1]; · iexact H1
  isplitl [H2]; · iexists _; iexact H2
  isplitl [HT0]; · iexact HT0
  isplitl [HT1]; · iexact HT1
  isplitl [HT2]; · iexact HT2
  iintro ⟨H0, H1, ⟨%e2, H2⟩, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  unfold owns; iexists _; isplitr
  swap; · iexact H2
  ipureintro; exact View.read_writes_of_cover _ _ _ _ _ (cover _ (hL t) _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- A window that is written back at a point is left at what the body leaves, idle there or not. -/
theorem leaves_flushed {M : Type} [URA M] (b fl : Bool) (h : fl = true) (P Q : sProp M) :
    Q ⊢ (match (generalizing := false) b with | true => (match (generalizing := false) fl with | false => P | true => Q) | false => Q) := by
  subst h; cases b <;> exact .rfl

/-- The library's body obligation, at every point: the body's triple restated (Lib/Pipeline/FrameBody.lean `triple_restated`). -/
theorem body_obligation (hO : Ok m) (hL : LiveOk m) (c : Dev nD) : BodyObligation (dats (F := F) m hO 0 c) (defs₀ (F := F)) Variants.none () Set.univ := fun t => by
  rw [bigSep_W0, bigSep_W0, defs₀_row m hO]
  exact triple_restated (sound_body m hO hL c t) rfl .rfl fun _ =>
    sep_mono_r (sep_mono_r (sep_mono_r (sep_mono_r (leaves_flushed _ _ (flush0_2 (adm m hO) t) _ _))))

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hL : LiveOk m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO hL c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hL : LiveOk m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hL)

/-- `frame` without the counters: the argument arrays end unchanged. -/
theorem unchanged (hO : Ok m) (hL : LiveOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO hL)

/-- THE FRAME, for every contents of the tables under which the blocks lie inside their arrays: the launch ends, with its
    arguments unchanged and every semaphore at zero. -/
theorem frame (hO : Ok m) (hL : LiveOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hL) ((θ_run defs _ _).mono (fun _ h => h.2) (run_main_quiescent m ρ hO hL))

end Cert.Kernel5Ideal.Gen

end
-- ==== Proof.DownValue.lean ====
/- The experts' down projection at the reals: what one block of the result holds. -/
module

public import proofs.«01_k».proof.Proof.DownFrame
public import Idealize.ShloMosaic.Lib.Pointwise
public import Idealize.ShloMosaic.Lib.ValueIdx
public import Idealize.ShloMosaic.Lib.WholeRead

@[expose] public section

set_option maxRecDepth 16384

noncomputable section

namespace Cert.Kernel5Ideal.Gen

open Idealize.ShloMosaic Idealize.ShloMosaic.TcCoe

/-- The block with `n` live slices: the product in the live rows, zero below them. -/
def blk (n : ℕ) (X : Vec Ideal S1280x5504 .bf16) (W : Vec Ideal S1x5504x256 .f32) (y : S1280x256.Idx) : EReal :=
  if (y 0).val < 128 * n then ∑ k : Fin 5504, X (ix2 (y 0) k) * W (ix3 0 k (y 1)) else 0

/-- Every piece that the body stores is a part of `blk`. -/
theorem pieces_part (n : ℕ) (hn : n ≤ 10) (arg5 : Memref sig .tc .vmem S1280x5504 .bf16) (harg5 : arg5.IsWhole) (arg6 : Memref sig .tc .vmem S1x5504x256 .f32) (harg6 : arg6.IsWhole)
    (X : Vec Ideal S1280x5504 .bf16) (W : Vec Ideal S1x5504x256 .f32) :
    ∀ p ∈ pieces (F := Ideal) n arg5 harg5 arg6 harg6 X W, ∀ x : p.1.shape.Idx, p.2 x = blk n X W (p.1.emb x) := by
  interval_cases n <;> simp only [pieces, List.forall_mem_cons, List.not_mem_nil, false_imp_iff, implies_true, and_true]
  all_goals first | refine ⟨fun x => ?_, fun x => ?_⟩ | refine fun x => ?_
  all_goals
    idx_vars x
    pointwise [blk, k0_pay1, k0_pay2, k0_pay3, k0_pay4, k0_pay5, k0_pay6, k0_pay7, k0_pay8, k0_pay9, k0_pay10, k0_pay11, k0_pay12, k0_pay13, k0_pay14,
      k0_pay15, k0_pay16, k0_pay17, k0_pay18, k0_pay19, k0_pay20, Memref.IsWhole.readAt_unread, weights]
    try exact (if_neg (Nat.not_lt.2 (Nat.le_add_right _ _))).symm
  all_goals
    try refine Eq.trans ?_ (if_pos (show 0 + 1 * x0.val < _ by omega)).symm
    exact Finset.sum_congr rfl fun k _ => congrArg₂ (fun a b : EReal => a * b)
      (congrArg X (congrArg (fun r => ix2 r k) (Fin.ext (show x0.val = 0 + 1 * x0.val by omega))))
      (congrArg W (congrArg (fun r => ix3 0 k r) (Fin.ext (show x1.val = 0 + 1 * x1.val by omega))))

end Cert.Kernel5Ideal.Gen

end
-- ==== Proof.DownArray.lean ====
/- The experts' down projection: what the precondition gives the launch, and the blocks that the body reads, as entries of
   the arguments. -/
module

public import proofs.«01_k».proof.Proof.DownValue
public import proofs.«01_k».proof.Proof.Plan
public import Idealize.ShloMosaic.Lib.Writes
public import Idealize.ShloMosaic.Lib.PairWhole
public import Idealize.ShloMosaic.Lib.Claim
public import Idealize.ShloMosaic.Lib.Pipeline.ValueKit.Geometry

@[expose] public section

set_option maxRecDepth 16384

noncomputable section

namespace Cert.Kernel5Ideal.Gen

open Idealize.ShloMosaic Idealize.ShloMosaic.TcCoe

section
variable {F : FTy → Type} [FloatOps F] (m : (ℓ : Loc nD τ sig) → Buf (Elt F) ℓ)

/-- The precondition on the launch memory's tables. -/
abbrev Planned : Prop := Plan.InRange (m (((0 : Dev nD).tc : Thread nD τ).loc main_arg0)) (m (((0 : Dev nD).tc : Thread nD τ).loc main_arg1)) (m (((0 : Dev nD).tc : Thread nD τ).loc main_arg2))

/-- The tile of a grid point. -/
abbrev tile (i : grid0.Coords) : Fin 21 := ⟨(i 0).val, (i 0).isLt⟩

/-- The words of the tables at a tile. -/
abbrev expertAt (t : Fin 21) : ℕ := BitVec.toNat (w := 32) ((tbl m 0 : Vec F S21 .i32) (ix1 t))
abbrev rowsAt (t : Fin 21) : ℕ := BitVec.toNat (w := 32) ((tbl m 1 : Vec F S21 .i32) (ix1 t))
abbrev sourceAt (t : Fin 21) : ℕ := BitVec.toNat (w := 32) ((tbl m 2 : Vec F S21 .i32) (ix1 t))

theorem word_index (i : grid0.Coords) (h) (z : (Rect.unit (s := S21) (k0_off1 i) S1.size h).shape.Idx) :
    (Rect.unit (s := S21) (k0_off1 i) S1.size h).emb z = ix1 (tile i) := by
  funext a
  apply Fin.ext
  obtain rfl : a = 0 := Subsingleton.elim _ _
  have hz : (z 0).val = 0 := by have : (z 0).val < 1 := (z 0).isLt; omega
  have h1 : (i 0).val < 21 := (i 0).isLt
  show (BitVec.ofNat 32 (i 0).val).toNat + 1 * (z 0).val = (i 0).val
  rw [hz]; simp; omega

theorem transform0 (i : grid0.Coords) : cc0_transform_0 k0_off1_inb numel1_S1 (tbl m) i = ![sourceAt m (tile i), 0] := by
  have e := word_index i (k0_off1_inb i) (Shape.Idx.first (numel1_S1.symm ▸ Nat.one_pos))
  exact congrArg (fun x => ![BitVec.toNat (w := 32) ((tbl m 2 : Vec F S21 .i32) x), 0]) e

theorem transform1 (i : grid0.Coords) : cc0_transform_1 k0_off1_inb numel1_S1 (tbl m) i
    = ![expertAt m (tile i), 0, if 0 < rowsAt m (tile i) ∧ rowsAt m (tile i) < 2 ^ 31 then (i 1).val else 15] := by
  have e := word_index i (k0_off1_inb i) (Shape.Idx.first (numel1_S1.symm ▸ Nat.one_pos))
  have e0 : cc0_transform_1 k0_off1_inb numel1_S1 (tbl m) i
      = ![expertAt m (tile i), 0, (Scalar.select (Scalar.cmpi .sgt ((tbl m 1 : Vec F S21 .i32) (ix1 (tile i))) 0#32) (BitVec.ofNat 32 (i 1).val) 15#32).toNat] :=
    congrArg (fun x => ![BitVec.toNat (w := 32) ((tbl m 0 : Vec F S21 .i32) x), 0, (Scalar.select (Scalar.cmpi .sgt ((tbl m 1 : Vec F S21 .i32) x) 0#32) (BitVec.ofNat 32 (i 1).val) 15#32).toNat]) e
  rw [e0]
  have h1 : (i 1).val < 16 := (i 1).isLt
  congr 3
  generalize hw : ((tbl m 1 : Vec F S21 .i32) (ix1 (tile i)) : BitVec 32) = w
  unfold rowsAt
  rw [hw]
  have hc : Scalar.cmpi .sgt w 0#32 = if 0 < w.toNat ∧ w.toNat < 2 ^ 31 then 1#1 else 0#1 := by
    show BitVec.ofBool ((0#32).slt w) = _
    have := BitVec.toInt_eq_toNat_cond w
    split <;> rename_i hh <;> simp only [BitVec.slt, BitVec.toInt_zero] <;> split at this
    · rw [decide_eq_true (by omega)]; rfl
    · omega
    · rw [decide_eq_false (by omega)]; rfl
    · rw [decide_eq_false (by omega)]; rfl
  rw [hc]
  split
  · simp [Scalar.select]; omega
  · simp [Scalar.select]

variable {m}

theorem liveAt_eq (t : Fin grid0.N) : liveAt m t = rowsAt m (tile (grid0.coords t)) :=
  congrArg (fun x => BitVec.toNat (w := 32) ((tbl m 1 : Vec F S21 .i32) x)) (word_index (grid0.coords t) (k0_off1_inb (grid0.coords t)) (Shape.Idx.first (numel1_S1.symm ▸ Nat.one_pos)))

theorem Planned.live (h : Planned m) : LiveOk m := fun t => by
  rw [liveAt_eq]
  exact Plan.InRange.live h _

theorem Planned.ok (h : Planned m) : Ok m := by
  refine ⟨fun i => ⟨fun a => ?_, .inr ?_⟩, fun i => ⟨fun a => ?_, .inl rfl⟩⟩
  · rw [transform0]
    have := h.source (tile i)
    fin_cases a
    · show (sourceAt m (tile i) + 1) * 1280 ≤ 26880
      have : sourceAt m (tile i) < 21 := this
      omega
    · show (0 + 1) * 5504 ≤ 5504
      omega
  · refine Rect.PackedRows.wholeWords (.inr ⟨by decide, rfl, .inl ⟨?_, ?_⟩⟩)
    · show 2 ∣ cc0_transform_0 k0_off1_inb numel1_S1 (tbl m) i 0 * 1280
      omega
    · show 2 ∣ 1280
      decide
  · rw [transform1]
    have := h.expert (tile i)
    have h1 : (i 1).val < 16 := (i 1).isLt
    fin_cases a
    · show (expertAt m (tile i) + 1) * 1 ≤ 8
      have : expertAt m (tile i) < 8 := this
      omega
    · show (0 + 1) * 5504 ≤ 5504
      omega
    · show ((if _ then _ else _) + 1) * 256 ≤ 4096
      split <;> omega

end

variable (m : (ℓ : Loc nD τ sig) → Buf (Elt Ideal) ℓ) (hO : Ok m) (c : Dev nD)

/-- The result: in a tile's live rows the product with the tile's expert, zero below them. -/
def result (T0 T1 : IVec Plan.Tiles 32) (X : Vec Ideal S26880x5504 .bf16) (W : Vec Ideal S8x5504x4096 .f32) : Vec Ideal S26880x4096 .f32 := fun y =>
  if (y 0).val % 1280 < 128 * (T1 (ix1 ⟨(y 0).val / 1280, by have : (y 0).val < 26880 := (y 0).isLt; omega⟩)).toNat
  then ∑ k : Fin 5504, X (ix2 (y 0) k) * W (ix3 ⟨(T0 (ix1 ⟨(y 0).val / 1280, by have : (y 0).val < 26880 := (y 0).isLt; omega⟩)).toNat % 8, Nat.mod_lt _ (by norm_num)⟩ k (y 1)) else 0

theorem index0 (t : Fin grid0.N) : ((cfgM m hO).win 0).index t = ![sourceAt m (tile (grid0.coords t)), 0] := transform0 m (grid0.coords t)
theorem index1 (t : Fin grid0.N) : ((cfgM m hO).win 1).index t
    = ![expertAt m (tile (grid0.coords t)), 0, if 0 < rowsAt m (tile (grid0.coords t)) ∧ rowsAt m (tile (grid0.coords t)) < 2 ^ 31 then (grid0.coords t 1).val else 15] := transform1 m (grid0.coords t)
theorem index2 (t : Fin grid0.N) : ((cfgM m hO).win 2).index t = ![(grid0.coords t 0).val, (grid0.coords t 1).val] := by
  have h0 : (grid0.coords t 0).val < 21 := (grid0.coords t 0).isLt
  have h1 : (grid0.coords t 1).val < 16 := (grid0.coords t 1).isLt
  show ![(BitVec.ofNat 32 (grid0.coords t 0).val).toNat, (BitVec.ofNat 32 (grid0.coords t 1).val).toNat] = _
  simp only [BitVec.toNat_ofNat]
  rw [Nat.mod_eq_of_lt (by omega), Nat.mod_eq_of_lt (by omega)]

theorem rows_block (h : Planned m) (t : Fin grid0.N) (hl : 0 < rowsAt m (tile (grid0.coords t))) (r : Fin 1280) (k : Fin 5504) :
    (iblk m hO c 0 t : Vec Ideal S1280x5504 .bf16) (ix2 r k)
      = (m ((c : Thread nD τ).loc main_arg3) : Vec Ideal S26880x5504 .bf16) (ix2 ⟨1280 * (grid0.coords t 0).val + r.val, by have : (grid0.coords t 0).val < 21 := (grid0.coords t 0).isLt; omega⟩ k) := by
  have e : sourceAt m (tile (grid0.coords t)) = (grid0.coords t 0).val := Plan.InRange.own h _ hl
  blk_ext [iblk, V, index0 m hO t, e]

theorem weight_block (h : Planned m) (t : Fin grid0.N) (hl : 0 < rowsAt m (tile (grid0.coords t))) (k : Fin 5504) (n : Fin 256) :
    (iblk m hO c 1 t : Vec Ideal S1x5504x256 .f32) (ix3 0 k n)
      = (m ((c : Thread nD τ).loc main_arg4) : Vec Ideal S8x5504x4096 .f32) (ix3 ⟨expertAt m (tile (grid0.coords t)) % 8, Nat.mod_lt _ (by norm_num)⟩ k
        ⟨256 * (grid0.coords t 1).val + n.val, by have : (grid0.coords t 1).val < 16 := (grid0.coords t 1).isLt; omega⟩) := by
  have e0 : expertAt m (tile (grid0.coords t)) < 8 := Plan.InRange.expert h _
  have e1 : rowsAt m (tile (grid0.coords t)) ≤ 10 := Plan.InRange.live h _
  have e := index1 m hO t
  rw [if_pos ⟨hl, by omega⟩, ← Nat.mod_eq_of_lt e0] at e
  blk_ext [iblk, V, e]

theorem outs_apply (hL : LiveOk m) (t : Fin grid0.N) (y : S1280x256.Idx) :
    outsAt0 m hO c t y = blk (liveAt m t) (iblk m hO c 0 t) (iblk m hO c 1 t) y := by
  unfold outsAt0
  exact View.read_writes_apply_of_pieces _ _ _ _ (pieces_part (liveAt m t) (hL t) _ _ _ _ _ _) y (cover (liveAt m t) (hL t) _ _ _ _ _ _ y)

theorem point (a : Fin 21) (b : Fin 16) : ∃ t : Fin grid0.N, (grid0.coords t 0).val = a.val ∧ (grid0.coords t 1).val = b.val := by
  have h : ∀ (a : Fin 21) (b : Fin 16), (grid0.coords (⟨16 * a.val + b.val, by have : grid0.N = 336 := by decide +kernel
                                                                               omega⟩ : Fin grid0.N) 0).val = a.val ∧ (grid0.coords (⟨16 * a.val + b.val, by have : grid0.N = 336 := by decide +kernel
                                                                                                                                                             omega⟩ : Fin grid0.N) 1).val = b.val := by decide +kernel
  exact ⟨_, h a b⟩

theorem covers (hO : Ok m) : ((cfgM m hO).win 2).Covers := by
  refine ⟨fun a => ?_, fun β => ?_⟩
  · fin_cases a
    · exact (by decide : 0 < 1280)
    · exact (by decide : 0 < 256)
  obtain ⟨t, h0, h1⟩ := point ⟨(β ⟨0, (by decide : 0 < 2)⟩).val, Nat.lt_of_lt_of_le (β ⟨0, (by decide : 0 < 2)⟩).isLt (by show (26880 + 1280 - 1) / 1280 ≤ 21; decide)⟩
    ⟨(β ⟨1, (by decide : 1 < 2)⟩).val, Nat.lt_of_lt_of_le (β ⟨1, (by decide : 1 < 2)⟩).isLt (by show (4096 + 256 - 1) / 256 ≤ 16; decide)⟩
  refine ⟨t, flush0_2 (adm m hO) t, fun a => ⟨?_, .inl rfl⟩⟩
  rw [index2]
  fin_cases a
  · exact h0
  · exact h1

/-- The row and the column of the array at which a block's element lies. -/
abbrev rowOf (i : grid0.Coords) (r : Fin 1280) : Fin 26880 := ⟨1280 * (i 0).val + r.val, by have : (i 0).val < 21 := (i 0).isLt; omega⟩
abbrev colOf (i : grid0.Coords) (n : Fin 256) : Fin 4096 := ⟨256 * (i 1).val + n.val, by have : (i 1).val < 16 := (i 1).isLt; omega⟩

theorem coordinates (y : S1280x256.Idx) : ∃ (r : Fin 1280) (n : Fin 256), y = ix2 r n := ⟨y 0, y 1, by funext a; fin_cases a <;> rfl⟩

/-- One block of the result. -/
theorem block_eq (h : Planned m) (t : Fin grid0.N) (r : Fin 1280) (n : Fin 256) :
    blk (liveAt m t) (iblk m hO c 0 t) (iblk m hO c 1 t) (ix2 r n)
      = result (m ((c : Thread nD τ).loc main_arg0)) (m ((c : Thread nD τ).loc main_arg1)) (m ((c : Thread nD τ).loc main_arg3)) (m ((c : Thread nD τ).loc main_arg4))
        (ix2 (rowOf (grid0.coords t) r) (colOf (grid0.coords t) n)) := by
  obtain rfl : c = 0 := Subsingleton.elim _ _
  have h0 : (grid0.coords t 0).val < 21 := (grid0.coords t 0).isLt
  have ht : ∀ q, (⟨(rowOf (grid0.coords t) r).val / 1280, q⟩ : Fin 21) = tile (grid0.coords t) := fun q => Fin.ext (by
    show (1280 * (grid0.coords t 0).val + r.val) / 1280 = (grid0.coords t 0).val
    omega)
  have hr : (rowOf (grid0.coords t) r).val % 1280 = r.val := by
    show (1280 * (grid0.coords t 0).val + r.val) % 1280 = r.val
    omega
  rw [liveAt_eq]
  show (if r.val < 128 * rowsAt m (tile (grid0.coords t)) then _ else _) = if (rowOf (grid0.coords t) r).val % 1280 < _ then _ else _
  rw [hr]
  simp only [ix2, Matrix.cons_val_zero, ht]
  by_cases hl : r.val < 128 * rowsAt m (tile (grid0.coords t))
  · refine (if_pos hl).trans (Eq.trans ?_ (if_pos hl).symm)
    have hl' : 0 < rowsAt m (tile (grid0.coords t)) := by omega
    exact Finset.sum_congr rfl fun k _ => congrArg₂ (fun a b : EReal => a * b) (rows_block m hO 0 h t hl' r k) (weight_block m hO 0 h t hl' k n)
  · exact (if_neg hl).trans (if_neg hl).symm

/-- THE RESULT ARRAY. -/
theorem array_eq (h : Planned m) : (dats m hO 0 c).arrAt 2 (cfgM m hO).N
    = result (m ((c : Thread nD τ).loc main_arg0)) (m ((c : Thread nD τ).loc main_arg1)) (m ((c : Thread nD τ).loc main_arg3)) (m ((c : Thread nD τ).loc main_arg4)) := by
  refine (dats m hO 0 c).arrAt_eq_of_covers 2 _ (covers m hO) fun t hf y => ?_
  blk_simp
  rw [after0_2]
  refine (outs_apply m hO c h.live t y).trans ?_
  obtain ⟨r, n, rfl⟩ := coordinates y
  refine (block_eq m hO c h t r n).trans (congrArg _ ?_)
  symm
  blk_ext [index2 m hO t]

end Cert.Kernel5Ideal.Gen
end
-- ==== Proof.DownClaim.lean ====
/- The claims about the experts' down projection: both programs run and leave their arguments, and the result is the
   reference's. -/
module

public import proofs.«01_k».proof.Proof.DownArray
public import proofs.«01_k».proof.Proof.DownRef
public import proofs.«01_k».proof.Proof.Gen.Kernel5
public import Idealize.ShloMosaic.Lib.Quiescent

@[expose] public section

noncomputable section

namespace Cert.Proof

open Idealize.ShloMosaic Idealize.ShloMosaic.TcCoe Idealize.SL.Sem

/-- The two programs have the same body table: their texts are the same. -/
theorem down_bodies_same : Cert.Kernel5.defs₀ (F := Bits) = Cert.Kernel5Ideal.defs₀ (F := Bits) :=
  congrArg Defs.onTc (funext fun l => funext fun a => match l, a with
    | 0, (_, _) => rfl
    | ⟨_ + 1, h⟩, _ => absurd h (Nat.not_lt.2 (Nat.le_add_left _ _)))

theorem down_defs_same : Cert.Kernel5.defs (F := Bits) = Cert.Kernel5Ideal.defs (F := Bits) :=
  congrArg (Pipeline.defs (Cert.Kernel5Ideal.pcfgs (F := Bits))) down_bodies_same

/-- The experts' down projection runs, leaves its arguments as they were and ends at rest, over machine floats … -/
theorem down_frame : Cert.quiescent_Kernel5 := fun m ρ hpre => by
  have h : Cert.Kernel5Ideal.Gen.Planned (F := Bits) m := Cert.Plan.inRange5 _ _ _ _ _ (hpre 0)
  rw [down_defs_same]
  exact Cert.Kernel5Ideal.Gen.frame (F := Bits) m ρ h.ok h.live

/-- … over the reals … -/
theorem down_frame_ideal : Cert.quiescent_Kernel5Ideal := fun m ρ hpre => by
  have h : Cert.Kernel5Ideal.Gen.Planned (F := Ideal) m := Cert.Plan.inRange5 _ _ _ _ _ (hpre 0)
  exact Cert.Kernel5Ideal.Gen.frame m ρ h.ok h.live

/-- … and so does the reference. -/
theorem down_frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel's array is the reference's. -/
theorem down_arrays (T0 T1 T2 : IVec Plan.Tiles 32) (h : Plan.InRange T0 T1 T2) (X : FVec Ideal Cert.Kernel5Ideal.S26880x5504 .bf16) (W : FVec Ideal Cert.Kernel5Ideal.S8x5504x4096 .f32) :
    Cert.Reference5Ideal.Down.result T0 T1 X W = Cert.Kernel5Ideal.Gen.result T0 T1 X W := by
  funext y
  obtain ⟨r, n, rfl⟩ : ∃ (r : Fin 26880) (n : Fin 4096), y = ix2 r n := ⟨y 0, y 1, by funext a; fin_cases a <;> rfl⟩
  exact Cert.Reference5Ideal.Down.result_apply T0 T1 X W r n (h.expert _) (h.live _)

/-- THE EXPERTS' DOWN PROJECTION: the kernel's result is the reference's. -/
theorem down_value : Cert.algebraic_Kernel5Ideal_Reference5Ideal := by
  intro m ρ m' ρ' hpre hagree
  have h : Cert.Kernel5Ideal.Gen.Planned (F := Ideal) m := Cert.Plan.inRange5 _ _ _ _ _ (hpre 0)
  refine ⟨fun c => Cert.Kernel5Ideal.Gen.result (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)), ?_, ?_⟩
  · exact (θ_run Cert.Kernel5Ideal.defs _ _).mono (fun r hr c => ⟨((hr.1 c).1 2).trans (Cert.Kernel5Ideal.Gen.array_eq m h.ok c h), hr.2 c⟩)
      (θ_run_and (Cert.Kernel5Ideal.Gen.run_main m ρ h.ok h.live) (Cert.Kernel5Ideal.Gen.unchanged m ρ h.ok h.live))
  · refine (θ_run Cert.Reference5Ideal.defs _ _).mono (fun _ hr c => ⟨(hr c).1.trans ?_, (hr c).2⟩)
      (Cert.Reference5Ideal.Value.run (F := Ideal) m' ρ')
    rw [(hagree c).1, (hagree c).2.1, (hagree c).2.2.2.1, (hagree c).2.2.2.2]
    obtain rfl : c = 0 := Subsingleton.elim _ _
    exact down_arrays _ _ _ h _ _

end Cert.Proof
end
-- ==== Proof.DenseUpSetup.lean ====
/- The set-up of the dense layer's gated product (program Kernel2Ideal): the contents of memory when the region is
   entered, the prefetched tables, the windows' blocks, and the staging buffers, for any reading of floats. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host's writing of the three tables. -/
def V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

set_option maxHeartbeats 800000 in
/-- @main up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0]
    (by simp only [List.Forall]; exact hostOps0_sub)
    (by simp only [List.Forall]; exact hostOps0_fresh) main_chain

/-- A buffer that the host writes none of its results to is found as launched. -/
theorem V_of_ne (c : Dev nD) (b : Ref sig .tc) (h : b ≠ main_c ∧ b ≠ main_v0 ∧ b ≠ main_c_0 ∧ b ≠ main_v1 ∧ b ≠ main_v2) :
    V m c b = m ((c : Thread nD τ).loc b) :=
  StableHlo.after_of_forall_not_mem (b := Proc.devRef .tc b) _ _ (List.forall_iff_forall_mem.mp (by
    obtain ⟨h0, h1, h2, h3, h4⟩ := h
    simp only [hostOps0, List.flatten_cons, List.flatten_nil, List.append_nil, List.cons_append,
      List.nil_append, List.Forall, StableHlo.nullary_writes, StableHlo.unary_writes, StableHlo.binary_writes, Finset.mem_singleton]
    exact ⟨StableHlo.devRef_ne_of_ne h0, StableHlo.devRef_ne_of_ne h1, StableHlo.devRef_ne_of_ne h2, StableHlo.devRef_ne_of_ne h3, StableHlo.devRef_ne_of_ne h4⟩))
theorem V_main_arg0 (c : Dev nD) : V m c main_arg0 = m ((c : Thread nD τ).loc main_arg0) := V_of_ne m c main_arg0 (by decide)
theorem V_main_arg1 (c : Dev nD) : V m c main_arg1 = m ((c : Thread nD τ).loc main_arg1) := V_of_ne m c main_arg1 (by decide)
theorem V_main_arg2 (c : Dev nD) : V m c main_arg2 = m ((c : Thread nD τ).loc main_arg2) := V_of_ne m c main_arg2 (by decide)

/-- The three tables: every tile is of expert zero, … -/
theorem V_main_v0 (c : Dev nD) : V m c main_v0 = (broadcastInDim S8 ![] bcast_S_S8 (constantI S_ 32 0#32) : IVec S8 32) := by
  unfold V
  simp only [List.flatten_cons, List.flatten_nil, List.append_nil, List.cons_append, List.nil_append, hostOps0]
  after_results

/-- … every tile is live, … -/
theorem V_main_v1 (c : Dev nD) : V m c main_v1 = (broadcastInDim S8 ![] bcast_S_S8 (constantI S_ 32 1#32) : IVec S8 32) := by
  unfold V
  simp only [List.flatten_cons, List.flatten_nil, List.append_nil, List.cons_append, List.nil_append, hostOps0]
  after_results

/-- … and every tile reads its own rows. -/
theorem V_main_v2 (c : Dev nD) : V m c main_v2 = (iotaInDim S8 32 0 : IVec S8 32) := by
  unfold V
  simp only [List.flatten_cons, List.flatten_nil, List.append_nil, List.cons_append, List.nil_append, hostOps0]
  after_results

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; the tables that the host writes satisfy it. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S8 .i32 := Memref.whole main_v0
abbrev htbM0_0 : tbM0_0.IsWhole := Memref.isWhole_whole _
abbrev tbM0_1 : Memref sig .tc .smem S8 .i32 := Memref.whole main_v1
abbrev htbM0_1 : tbM0_1.IsWhole := Memref.isWhole_whole _
abbrev tbM0_2 : Memref sig .tc .smem S8 .i32 := Memref.whole main_v2
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = {0, 1, 2} from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c)))⟩) h

/-! ## The kernel body on any staging memrefs: a subtype the run finds -/

/-- One staging buffer of the output window, through which its contents are stated (the choice does not matter). -/
abbrev VO0_3 : View sig .tc .vmem S1024x256 .bf16 := (Memref.whole cc0_stg3_0 : Memref sig .tc .vmem S1024x256 .bf16).view
/-- Each window's current staging memref at point `t`, spelled as the pipeline passes it (`bodyAt0`), and its wholeness. -/
abbrev ms0_0 (hO : Ok m) (t : Fin (cfgM m hO).N) : Memref sig .tc .vmem S1024x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4096x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4096x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1024x256 .bf16 := spec0_3.stage ((cfgM m hO).slots t 3)
abbrev hs0_3 (hO : Ok m) (t : Fin (cfgM m hO).N) : (ms0_3 m hO t).IsWhole := hstage0_3 (((cfgM m hO).slots t 3).cast nbuf0_3)

/-- The output window is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 1 (fun _ => rfl) (by decide)) (P := 1) (m := 0) (by decide) rfl t).mpr (Nat.mod_one _) : ∀ t : Fin grid0.N, Pipeline.Window.flushOf grid0 true cc0_transform_3 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_swiglu_up (grid0.coords t) (Memref.whole main_v0) (Memref.isWhole_whole _) (Memref.whole main_v1) (Memref.isWhole_whole _) (Memref.whole main_v2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

end Cert.Kernel2Ideal.Gen

end
-- ==== Proof.DenseUpRun.lean ====
/- One run of the body of the dense layer's gated product: a live tile's block is written whole. -/
module

public import proofs.«01_k».proof.Proof.DenseUpSetup

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the tile is live: the word of the second table that the body reads. -/
abbrev live (i : grid0.Coords) (T1 : Vec F S8 .i32) : BitVec 32 :=
  tbM0_1.view.readAt (Elt F) (Rect.unit (s := S8) (k0_off1 i) S1.size (k0_off1_inb i)).toLoadRect T1 (Shape.Idx.first (numel1_S1.symm ▸ Nat.one_pos))

/-- A whole weight block as the body loads it. -/
abbrev weights (arg6 : Memref sig .tc .vmem S1x4096x256 .f32) (harg6 : arg6.IsWhole) (x1 : Vec F S1x4096x256 .f32) : Vec F S1x4096x256 .f32 :=
  View.readAt (Elt F) arg6.view (Rect.unit (s := S1x4096x256) ![0, 0, 0] S1x4096x256.size inb_S1x4096x256_S1x4096x256_0_0_0).toLoadRect (harg6.unread x1)

/-- What the body stores in a live tile: the gated product, over the whole block. -/
def pieces (arg5 : Memref sig .tc .vmem S1024x4096 .bf16) (harg5 : arg5.IsWhole) (arg6 : Memref sig .tc .vmem S1x4096x256 .f32) (harg6 : arg6.IsWhole) (arg7 : Memref sig .tc .vmem S1x4096x256 .f32) (harg7 : arg7.IsWhole)
    (x0 : Vec F S1024x4096 .bf16) (x1 x2 : Vec F S1x4096x256 .f32) : List (View.Piece (Elt F) S1024x256 .bf16) :=
  [⟨Rect.unit (s := S1024x256) ![0, 0] S1024x256.size inb_S1024x256_S1024x256_0_0,
    k0_pay2 (View.readAt (Elt F) arg5.view (Rect.unit (s := S1024x4096) ![0, 0] S1024x4096.size inb_S1024x4096_S1024x4096_0_0).toLoadRect (harg5.unread x0)) (weights arg6 harg6 x1) (weights arg7 harg7 x2)⟩]

set_option maxHeartbeats 1000000 in
/-- The body, run in a live tile on whole staging buffers: it leaves its inputs as they were and writes `pieces`
    into the output's buffer. -/
theorem run (c : Dev nD) (i : grid0.Coords) (arg5 : Memref sig .tc .vmem S1024x4096 .bf16) (harg5 : arg5.IsWhole) (arg6 : Memref sig .tc .vmem S1x4096x256 .f32) (harg6 : arg6.IsWhole) (arg7 : Memref sig .tc .vmem S1x4096x256 .f32) (harg7 : arg7.IsWhole) (arg8 : Memref sig .tc .vmem S1024x256 .bf16) (harg8 : arg8.IsWhole)
    (x0 : Vec F S1024x4096 .bf16) (x1 x2 : Vec F S1x4096x256 .f32) (xt0 : TbBuf0 (F := F) c tbM0_0) (xt1 : TbBuf0 (F := F) c tbM0_1) (xt2 : TbBuf0 (F := F) c tbM0_2)
    (hw : live (F := F) i xt1 = 1#32) (E : Set ℕ) (K : PUnit → sProp 𝕄) :
    iprop(owns (c : Thread nD τ) arg5 fullShare x0 ∗ owns (c : Thread nD τ) arg6 fullShare x1 ∗ owns (c : Thread nD τ) arg7 fullShare x2 ∗ (∃ d, owns (c : Thread nD τ) arg8 fullShare d) ∗ tbPt0 c tbM0_0 xt0 ∗ tbPt0 c tbM0_1 xt1 ∗ tbPt0 c tbM0_2 xt2
        ∗ (iprop(owns (c : Thread nD τ) arg5 fullShare x0 ∗ owns (c : Thread nD τ) arg6 fullShare x1 ∗ owns (c : Thread nD τ) arg7 fullShare x2 ∗ (∃ f, arg8.view.loc (c : Thread nD τ) ↦[arg8.view.set]{fullShare} arg8.view.writes (Elt F) f (pieces arg5 harg5 arg6 harg6 arg7 harg7 x0 x1 x2)) ∗ tbPt0 c tbM0_0 xt0 ∗ tbPt0 c tbM0_1 xt1 ∗ tbPt0 c tbM0_2 xt2) -∗ K ⟨⟩))
      ⊢ wp frame (wpE (defs₀ (F := F)) Variants.none c none) E (cc0_swiglu_up i tbM0_0 htbM0_0 tbM0_1 htbM0_1 tbM0_2 htbM0_2 arg5 harg5 arg6 harg6 arg7 harg7 arg8 harg8) K := by
  simp only [cc0_swiglu_up_eq_skeleton]; unfold cc0_swiglu_up_skel
  unfold owns
  iintro ⟨⟨%f0, %hf0, H0⟩, ⟨%f1, %hf1, H1⟩, ⟨%f2, %hf2, H2⟩, ⟨%d3, %f3, -, H3⟩, HT0, HT1, HT2, Hk⟩
  obtain rfl := harg5.eq_unread hf0; obtain rfl := harg6.eq_unread hf1; obtain rfl := harg7.eq_unread hf2
  sl_exec (disch := first |
      (guard_target = k0_cond1 _ = _; exact (congrArg k0_cond1 hw).trans (by decide)) |
      (guard_target = ¬(k0_cond1 _ = _); exact fun h => absurd ((congrArg k0_cond1 hw).symm.trans h) (by decide)) |
      (guard_target = k0_cond2 _ = _; exact (congrArg k0_cond2 hw).trans (by decide)) |
      (guard_target = ¬(k0_cond2 _ = _); exact fun h => absurd ((congrArg k0_cond2 hw).symm.trans h) (by decide)))
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]; · iexists _; iexact H3
  isplitl [HT0]; · iexact HT0
  isplitl [HT1]; · iexact HT1
  iexact HT2

end Cert.Kernel2Ideal.Gen

end
-- ==== Proof.DenseUpFrame.lean ====
/- The frame of the dense layer's gated product (program Kernel2Ideal), for any reading of floats: the launch ends, with its
   arguments unchanged and the result array at what the points of the grid wrote. -/
module

public import proofs.«01_k».proof.Proof.DenseUpRun
public import Idealize.ShloMosaic.Lib.Claim
public import Idealize.ShloMosaic.Lib.Pointwise

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The one piece covers the block. -/
theorem cover (arg5 : Memref sig .tc .vmem S1024x4096 .bf16) (harg5 : arg5.IsWhole) (arg6 : Memref sig .tc .vmem S1x4096x256 .f32) (harg6 : arg6.IsWhole) (arg7 : Memref sig .tc .vmem S1x4096x256 .f32) (harg7 : arg7.IsWhole)
    (x0 : Vec F S1024x4096 .bf16) (x1 x2 : Vec F S1x4096x256 .f32) (y : S1024x256.Idx) :
    ∃ pc ∈ pieces arg5 harg5 arg6 harg6 arg7 harg7 x0 x1 x2, y ∈ pc.1.set :=
  View.cover_of_tiledBy (pieces arg5 harg5 arg6 harg6 arg7 harg7 x0 x1 x2) ![1024, 256] (by sl_kernel_rfl) y

/-- The tile of a grid point. -/
abbrev tile (i : grid0.Coords) : Fin 8 := ⟨(i 0).val, (i 0).isLt⟩

theorem word_index (i : grid0.Coords) (h) (z : (Rect.unit (s := S8) (k0_off1 i) S1.size h).shape.Idx) :
    (Rect.unit (s := S8) (k0_off1 i) S1.size h).emb z = ix1 (tile i) := by
  funext a
  apply Fin.ext
  obtain rfl : a = 0 := Subsingleton.elim _ _
  have hz : (z 0).val = 0 := by have : (z 0).val < 1 := (z 0).isLt; omega
  have h1 : (i 0).val < 8 := (i 0).isLt
  show (BitVec.ofNat 32 (i 0).val).toNat + 1 * (z 0).val = (i 0).val
  rw [hz]; simp; omega

/-- The words of the tables at a tile. -/
theorem expert_word (t : Fin 8) : (tbl m 0 : IVec S8 32) (ix1 t) = 0#32 := congrFun (V_main_v0 m 0) (ix1 t)
theorem live_word (t : Fin 8) : (tbl m 1 : IVec S8 32) (ix1 t) = 1#32 := congrFun (V_main_v1 m 0) (ix1 t)
theorem source_word (t : Fin 8) : (tbl m 2 : IVec S8 32) (ix1 t) = BitVec.ofNat 32 t.val := congrFun (V_main_v2 m 0) (ix1 t)

/-- Every tile is live. -/
theorem live_tile (t : Fin grid0.N) : live (F := F) (grid0.coords t) (tbl m 1) = 1#32 :=
  (congrArg (tbl m 1 : IVec S8 32) (word_index (grid0.coords t) (k0_off1_inb (grid0.coords t)) (Shape.Idx.first (numel1_S1.symm ▸ Nat.one_pos)))).trans
    (live_word m _)

/-- A tile's rows are its own; its weight columns are those of its column block. -/
theorem transform0 (i : grid0.Coords) : cc0_transform_0 k0_off1_inb numel1_S1 (tbl m) i = ![(i 0).val, 0] := by
  have h0 : (i 0).val < 8 := (i 0).isLt
  have e := source_word m (tile i)
  revert e
  generalize tbl m = pf
  intro e
  have w := word_index i (k0_off1_inb i) (Shape.Idx.first (numel1_S1.symm ▸ Nat.one_pos))
  refine (congrArg (fun x => ![BitVec.toNat (w := 32) ((pf 2 : IVec S8 32) x), 0]) w).trans ?_
  refine (congrArg (fun x : BitVec 32 => ![x.toNat, 0]) e).trans ?_
  show ![(BitVec.ofNat 32 (i 0).val).toNat, 0] = _
  rw [BitVec.toNat_ofNat, Nat.mod_eq_of_lt (by omega)]

theorem transform1 (i : grid0.Coords) : cc0_transform_1 k0_off1_inb numel1_S1 (tbl m) i = ![0, 0, (i 1).val] := by
  have h1 : (i 1).val < 43 := (i 1).isLt
  have e0 := expert_word m (tile i)
  have e1 := live_word m (tile i)
  revert e0 e1
  generalize tbl m = pf
  intro e0 e1
  have w := word_index i (k0_off1_inb i) (Shape.Idx.first (numel1_S1.symm ▸ Nat.one_pos))
  refine (congrArg (fun x => ![BitVec.toNat (w := 32) ((pf 0 : IVec S8 32) x), 0, (Scalar.select (Scalar.cmpi .sgt ((pf 1 : IVec S8 32) x) 0#32) (BitVec.ofNat 32 (i 1).val) 42#32).toNat]) w).trans ?_
  refine (congrArg₂ (fun x y : BitVec 32 => ![x.toNat, 0, (Scalar.select (Scalar.cmpi .sgt y 0#32) (BitVec.ofNat 32 (i 1).val) 42#32).toNat]) e0 e1).trans ?_
  show ![0, 0, (BitVec.ofNat 32 (i 1).val).toNat] = _
  rw [BitVec.toNat_ofNat, Nat.mod_eq_of_lt (by omega)]

theorem transform2 (i : grid0.Coords) : cc0_transform_2 k0_off1_inb numel1_S1 (tbl m) i = ![0, 0, (i 1).val] := transform1 m i

/-- Every weight block lies inside its array. -/
theorem weight_inside (i : grid0.Coords) (a : Fin 3) : ((![0, 0, (i 1).val] : Fin 3 → ℕ) a + 1) * S1x4096x256.size a ≤ S1x4096x11008.size a := by
  have h1 : (i 1).val < 43 := (i 1).isLt
  match a with
  | ⟨0, _⟩ => show (0 + 1) * 1 ≤ 1; omega
  | ⟨1, _⟩ => show (0 + 1) * 4096 ≤ 4096; omega
  | ⟨2, _⟩ => show ((i 1).val + 1) * 256 ≤ 11008; omega

/-- Every block lies inside its array. -/
theorem tables_ok : Ok m := by
  refine ⟨fun i => ⟨fun a => ?_, .inr ?_⟩, fun i => ⟨fun a => ?_, .inl rfl⟩, fun i => ⟨fun a => ?_, .inl rfl⟩⟩
  · rw [transform0]
    have h0 : (i 0).val < 8 := (i 0).isLt
    match a with
    | ⟨0, _⟩ => show ((i 0).val + 1) * 1024 ≤ 8192; omega
    | ⟨1, _⟩ => show (0 + 1) * 4096 ≤ 4096; omega
  · refine Rect.PackedRows.wholeWords (.inr ⟨by decide, rfl, .inl ⟨?_, ?_⟩⟩)
    · show 2 ∣ cc0_transform_0 k0_off1_inb numel1_S1 (tbl m) i 0 * 1024
      omega
    · show 2 ∣ 1024
      decide
  · rw [transform1]; exact weight_inside i a
  · rw [transform2]; exact weight_inside i a

/-- What the output's staging buffer holds after the body at point `t`. -/
def outsAt0 (hO : Ok m) (c : Dev nD) (t : Fin (cfgM m hO).N) : Vec F S1024x256 .bf16 :=
  VO0_3.read (Elt F) (VO0_3.writes (Elt F) VO0_3.junk (pieces (ms0_0 m hO t) (hs0_0 m hO t) (ms0_1 m hO t) (hs0_1 m hO t) (ms0_2 m hO t) (hs0_2 m hO t) (iblk m hO c 0 t) (iblk m hO c 1 t) (iblk m hO c 2 t)))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1, HT2⟩⟩, Ho, ⟨%d0, H0⟩, ⟨%d1, H1⟩, ⟨%d2, H2⟩, ⟨%d3, H3⟩⟩
  iapply (run c (grid0.coords t) _ _ _ _ _ _ _ _ (iblk m hO c 0 t) (iblk m hO c 1 t) (iblk m hO c 2 t) (tbl m 0) (tbl m 1) (tbl m 2) (live_tile m t) Set.univ _)
  isplitl [H0]; · iexact H0
  isplitl [H1]; · iexact H1
  isplitl [H2]; · iexact H2
  isplitl [H3]; · iexists _; iexact H3
  isplitl [HT0]; · iexact HT0
  isplitl [HT1]; · iexact HT1
  isplitl [HT2]; · iexact HT2
  iintro ⟨H0, H1, H2, ⟨%e3, H3⟩, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- A window that is written back at a point is left at what the body leaves, idle there or not. -/
theorem leaves_flushed {M : Type} [URA M] (b fl : Bool) (h : fl = true) (P Q : sProp M) :
    Q ⊢ (match (generalizing := false) b with | true => (match (generalizing := false) fl with | false => P | true => Q) | false => Q) := by
  subst h; cases b <;> exact .rfl

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ =>
    sep_mono_r (sep_mono_r (sep_mono_r (sep_mono_r (sep_mono_r (leaves_flushed _ _ (flush0_3 (adm m hO) t) _ _)))))

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (dats m hO) (A_eq m hO) (run_main m ρ hO)

/-- THE FRAME: the launch ends, with its
    arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ (tables_ok m)) ((θ_run defs _ _).mono (fun _ h => h.2) (run_main_quiescent m ρ (tables_ok m)))

end Cert.Kernel2Ideal.Gen

end
-- ==== Proof.DenseUpArray.lean ====
/- The dense layer's gated product at the reals: what one block holds, and the result array. -/
module

public import proofs.«01_k».proof.Proof.DenseUpFrame
public import proofs.«01_k».proof.Proof.UpValue
public import Idealize.ShloMosaic.Lib.Writes
public import Idealize.ShloMosaic.Lib.Pointwise
public import Idealize.ShloMosaic.Lib.ValueIdx
public import Idealize.ShloMosaic.Lib.WholeRead
public import Idealize.ShloMosaic.Lib.Claim
public import Idealize.ShloMosaic.Lib.Pipeline.ValueKit.Geometry

@[expose] public section

set_option maxRecDepth 16384

noncomputable section

namespace Cert.Kernel2Ideal.Gen

open Idealize.ShloMosaic Idealize.ShloMosaic.TcCoe
open Cert.Kernel4Ideal.Gen (gated)

/-- A block of the result: the gated product of its rows with its weight columns. -/
def blk (X : Vec Ideal S1024x4096 .bf16) (W U : Vec Ideal S1x4096x256 .f32) (y : S1024x256.Idx) : EReal :=
  gated (∑ k : Fin 4096, X (ix2 (y 0) k) * W (ix3 0 k (y 1))) (∑ k : Fin 4096, X (ix2 (y 0) k) * U (ix3 0 k (y 1)))

/-- The piece that the body stores is `blk`. -/
theorem pieces_part (arg5 : Memref sig .tc .vmem S1024x4096 .bf16) (harg5 : arg5.IsWhole) (arg6 : Memref sig .tc .vmem S1x4096x256 .f32) (harg6 : arg6.IsWhole) (arg7 : Memref sig .tc .vmem S1x4096x256 .f32) (harg7 : arg7.IsWhole)
    (X : Vec Ideal S1024x4096 .bf16) (W U : Vec Ideal S1x4096x256 .f32) :
    ∀ p ∈ pieces (F := Ideal) arg5 harg5 arg6 harg6 arg7 harg7 X W U, ∀ x : p.1.shape.Idx, p.2 x = blk X W U (p.1.emb x) := by
  simp only [pieces, List.forall_mem_cons, List.not_mem_nil, false_imp_iff, implies_true, and_true]
  intro x
  idx_vars x
  pointwise [blk, k0_pay2, Memref.IsWhole.readAt_unread, weights]
  refine congrArg₂ gated ?_ ?_
  all_goals
    refine Finset.sum_congr rfl fun k _ => congrArg₂ (fun a b : EReal => a * b)
      (congrArg X (congrArg (fun r => ix2 r k) (Fin.ext (show x0.val = 0 + 1 * x0.val by omega)))) ?_
    first
      | exact congrArg W (congrArg (fun r => ix3 0 k r) (Fin.ext (show x1.val = 0 + 1 * x1.val by omega)))
      | exact congrArg U (congrArg (fun r => ix3 0 k r) (Fin.ext (show x1.val = 0 + 1 * x1.val by omega)))

variable (m : (ℓ : Loc nD τ sig) → Buf (Elt Ideal) ℓ) (hO : Ok m) (c : Dev nD)

attribute [local irreducible] V

/-- The result: the gated product of every row with every column of the weights. -/
def result (X : Vec Ideal S8192x4096 .bf16) (W U : Vec Ideal S1x4096x11008 .f32) : Vec Ideal S8192x11008 .bf16 := fun y =>
  gated (∑ k : Fin 4096, X (ix2 (y 0) k) * W (ix3 0 k (y 1))) (∑ k : Fin 4096, X (ix2 (y 0) k) * U (ix3 0 k (y 1)))

theorem index0 (t : Fin grid0.N) : ((cfgM m hO).win 0).index t = ![(grid0.coords t 0).val, 0] := transform0 m (grid0.coords t)
theorem index1 (t : Fin grid0.N) : ((cfgM m hO).win 1).index t = ![0, 0, (grid0.coords t 1).val] := transform1 m (grid0.coords t)
theorem index2 (t : Fin grid0.N) : ((cfgM m hO).win 2).index t = ![0, 0, (grid0.coords t 1).val] := transform2 m (grid0.coords t)
theorem index3 (t : Fin grid0.N) : ((cfgM m hO).win 3).index t = ![(grid0.coords t 0).val, (grid0.coords t 1).val] := by
  have h0 : (grid0.coords t 0).val < 8 := (grid0.coords t 0).isLt
  have h1 : (grid0.coords t 1).val < 43 := (grid0.coords t 1).isLt
  show ![(BitVec.ofNat 32 (grid0.coords t 0).val).toNat, (BitVec.ofNat 32 (grid0.coords t 1).val).toNat] = _
  simp only [BitVec.toNat_ofNat]
  rw [Nat.mod_eq_of_lt (by omega), Nat.mod_eq_of_lt (by omega)]

/-- The row and the column of the arrays at which a block's row and column lie. -/
abbrev rowOf (i : grid0.Coords) (r : Fin 1024) : Fin 8192 := ⟨1024 * (i 0).val + r.val, by have : (i 0).val < 8 := (i 0).isLt; omega⟩
abbrev colOf (i : grid0.Coords) (n : Fin 256) : Fin 11008 := ⟨256 * (i 1).val + n.val, by have : (i 1).val < 43 := (i 1).isLt; omega⟩

theorem rows_block (t : Fin grid0.N) (r : Fin 1024) (k : Fin 4096) :
    (iblk m hO c 0 t : Vec Ideal S1024x4096 .bf16) (ix2 r k)
      = (V m c main_arg0 : Vec Ideal S8192x4096 .bf16) (ix2 (rowOf (grid0.coords t) r) k) := by
  blk_ext [iblk, index0 m hO t]

theorem gate_block (t : Fin grid0.N) (k : Fin 4096) (n : Fin 256) :
    (iblk m hO c 1 t : Vec Ideal S1x4096x256 .f32) (ix3 0 k n)
      = (V m c main_arg1 : Vec Ideal S1x4096x11008 .f32) (ix3 0 k (colOf (grid0.coords t) n)) := by
  blk_ext [iblk, index1 m hO t]

theorem up_block (t : Fin grid0.N) (k : Fin 4096) (n : Fin 256) :
    (iblk m hO c 2 t : Vec Ideal S1x4096x256 .f32) (ix3 0 k n)
      = (V m c main_arg2 : Vec Ideal S1x4096x11008 .f32) (ix3 0 k (colOf (grid0.coords t) n)) := by
  blk_ext [iblk, index2 m hO t]

theorem outs_apply (t : Fin grid0.N) (y : S1024x256.Idx) :
    outsAt0 m hO c t y = blk (iblk m hO c 0 t) (iblk m hO c 1 t) (iblk m hO c 2 t) y := by
  unfold outsAt0
  exact View.read_writes_apply_of_pieces _ _ _ _ (pieces_part _ _ _ _ _ _ _ _ _) y (cover _ _ _ _ _ _ _ _ _ y)

theorem point (a : Fin 8) (b : Fin 43) : ∃ t : Fin grid0.N, (grid0.coords t 0).val = a.val ∧ (grid0.coords t 1).val = b.val := by
  have h : ∀ (a : Fin 8) (b : Fin 43), (grid0.coords (⟨43 * a.val + b.val, by have := N_0; omega⟩ : Fin grid0.N) 0).val = a.val
      ∧ (grid0.coords (⟨43 * a.val + b.val, by have := N_0; omega⟩ : Fin grid0.N) 1).val = b.val := by decide +kernel
  exact ⟨_, h a b⟩

/-- The blocks that the points write cover the array. -/
theorem covers (hO : Ok m) : ((cfgM m hO).win 3).Covers := by
  refine ⟨fun a => ?_, fun β => ?_⟩
  · fin_cases a
    · exact (by decide : 0 < 1024)
    · exact (by decide : 0 < 256)
  obtain ⟨t, h0, h1⟩ := point ⟨(β ⟨0, (by decide : 0 < 2)⟩).val, Nat.lt_of_lt_of_le (β ⟨0, (by decide : 0 < 2)⟩).isLt (by show (8192 + 1024 - 1) / 1024 ≤ 8; decide)⟩
    ⟨(β ⟨1, (by decide : 1 < 2)⟩).val, Nat.lt_of_lt_of_le (β ⟨1, (by decide : 1 < 2)⟩).isLt (by show (11008 + 256 - 1) / 256 ≤ 43; decide)⟩
  refine ⟨t, flush0_3 (adm m hO) t, fun a => ⟨?_, .inl rfl⟩⟩
  rw [index3]
  fin_cases a
  · exact h0
  · exact h1

theorem coordinates (y : S1024x256.Idx) : ∃ (r : Fin 1024) (n : Fin 256), y = ix2 r n := ⟨y 0, y 1, by funext a; fin_cases a <;> rfl⟩

/-- One block of the result. -/
theorem block_eq (t : Fin grid0.N) (r : Fin 1024) (n : Fin 256) :
    blk (iblk m hO c 0 t) (iblk m hO c 1 t) (iblk m hO c 2 t) (ix2 r n)
      = result (V m c main_arg0) (V m c main_arg1) (V m c main_arg2) (ix2 (rowOf (grid0.coords t) r) (colOf (grid0.coords t) n)) :=
  congrArg₂ gated
    (Finset.sum_congr rfl fun k _ => congrArg₂ (fun a b : EReal => a * b) (rows_block m hO c t r k) (gate_block m hO c t k n))
    (Finset.sum_congr rfl fun k _ => congrArg₂ (fun a b : EReal => a * b) (rows_block m hO c t r k) (up_block m hO c t k n))

/-- THE RESULT ARRAY. -/
theorem array_eq : (dats m hO 0 c).arrAt 3 (cfgM m hO).N = result (V m c main_arg0) (V m c main_arg1) (V m c main_arg2) := by
  refine (dats m hO 0 c).arrAt_eq_of_covers 3 _ (covers m hO) fun t hf y => ?_
  blk_simp
  rw [after0_3]
  refine (outs_apply m hO c t _).trans ?_
  have e0 : ((((cfgM m hO).win 3).blk t).view.emb y (0 : Fin 2)).val = ((cfgM m hO).win 3).index t ⟨0, (by decide : 0 < 2)⟩ * 1024 + 1 * (y ⟨0, (by decide : 0 < 2)⟩).val := rfl
  have e1 : ((((cfgM m hO).win 3).blk t).view.emb y (1 : Fin 2)).val = ((cfgM m hO).win 3).index t ⟨1, (by decide : 1 < 2)⟩ * 256 + 1 * (y ⟨1, (by decide : 1 < 2)⟩).val := rfl
  have i0 : ((cfgM m hO).win 3).index t ⟨0, (by decide : 0 < 2)⟩ = (grid0.coords t 0).val := by rw [index3 m hO t]; rfl
  have i1 : ((cfgM m hO).win 3).index t ⟨1, (by decide : 1 < 2)⟩ = (grid0.coords t 1).val := by rw [index3 m hO t]; rfl
  obtain ⟨r, n, hx⟩ := coordinates y
  have hr : (y ⟨0, (by decide : 0 < 2)⟩).val = r.val := congrArg (fun x : S1024x256.Idx => (x 0).val) hx
  have hn : (y ⟨1, (by decide : 1 < 2)⟩).val = n.val := congrArg (fun x : S1024x256.Idx => (x 1).val) hx
  rw [i0] at e0
  rw [i1] at e1
  have f0 : 1024 * (grid0.coords t 0).val + r.val = ((((cfgM m hO).win 3).blk t).view.emb y (0 : Fin 2)).val := by omega
  have f1 : 256 * (grid0.coords t 1).val + n.val = ((((cfgM m hO).win 3).blk t).view.emb y (1 : Fin 2)).val := by omega
  refine (congrArg (blk (iblk m hO c 0 t) (iblk m hO c 1 t) (iblk m hO c 2 t)) hx).trans ((block_eq m hO c t r n).trans (congrArg _ ?_))
  funext a
  apply Fin.ext
  match a with
  | ⟨0, _⟩ => exact f0
  | ⟨1, _⟩ => exact f1

end Cert.Kernel2Ideal.Gen
end
-- ==== Proof.DenseUpClaim.lean ====
/- The claims about the dense layer's gated product: both programs run and leave their arguments, and the result is the
   reference's. -/
module

public import proofs.«01_k».proof.Proof.DenseUpArray
public import proofs.«01_k».proof.Proof.Gen.Kernel2
public import proofs.«01_k».proof.Proof.Gen.Reference2Ideal.Run
public import proofs.«01_k».proof.Defs
public import Idealize.ShloMosaic.Lib.Quiescent

@[expose] public section

set_option maxRecDepth 16384

noncomputable section

namespace Cert.Proof

open Idealize.ShloMosaic Idealize.ShloMosaic.TcCoe Idealize.SL.Sem
open Cert.Kernel4Ideal.Gen (gated)

/-- The two programs have the same body table: their texts are the same. -/
theorem dense_up_bodies_same : Cert.Kernel2.defs₀ (F := Bits) = Cert.Kernel2Ideal.defs₀ (F := Bits) :=
  congrArg Defs.onTc (funext fun l => funext fun a => match l, a with
    | 0, (_, _) => rfl
    | ⟨_ + 1, h⟩, _ => absurd h (Nat.not_lt.2 (Nat.le_add_left _ _)))

theorem dense_up_defs_same : Cert.Kernel2.defs (F := Bits) = Cert.Kernel2Ideal.defs (F := Bits) :=
  congrArg (Pipeline.defs (Cert.Kernel2Ideal.pcfgs (F := Bits))) dense_up_bodies_same

set_option maxHeartbeats 1000000 in
/-- … and so are the programs around the launch. -/
theorem dense_up_mains_same : Cert.Kernel2.main (F := Bits) = Cert.Kernel2Ideal.main (F := Bits) := by
  unfold Cert.Kernel2.main Cert.Kernel2Ideal.main
  rfl

/-- The dense layer's gated product runs, leaves its arguments as they were and ends at rest, over machine floats … -/
theorem dense_up_frame : Cert.quiescent_Kernel2 := fun m ρ _ => by
  rw [dense_up_defs_same, dense_up_mains_same]
  exact Cert.Kernel2Ideal.Gen.frame (F := Bits) m ρ

/-- … over the reals … -/
theorem dense_up_frame_ideal : Cert.quiescent_Kernel2Ideal := fun m ρ _ => Cert.Kernel2Ideal.Gen.frame m ρ

/-- … and so does the reference. -/
theorem dense_up_frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

section
open Cert.Reference2Ideal Cert.Reference2Ideal.Gen Cert.Reference2Ideal.Facts

/-- The reference's product of the activations with one weight array. -/
def dense_up_product (X : FVec Ideal S8192x4096 .bf16) (W : FVec Ideal S1x4096x11008 .f32) : FVec Ideal S8192x11008 .f32 :=
  Host.dotGeneral dot_S8192x4096_S4096x11008_S8192x11008_1_0_0_1_n_n none (extf .f32 X bitsLt_bf16_f32) (shapeCast _ W shapeCasts_S1x4096x11008_S4096x11008)

theorem dense_up_product_apply (X : FVec Ideal S8192x4096 .bf16) (W : FVec Ideal S1x4096x11008 .f32) (r : Fin 8192) (n : Fin 11008) :
    dense_up_product X W (ix2 r n) = ∑ k : Fin 4096, X (ix2 r k) * W (ix3 0 k n) := by
  pointwise [dense_up_product]

/-- What the reference computes. -/
def dense_up_result (X : FVec Ideal S8192x4096 .bf16) (W U : FVec Ideal S1x4096x11008 .f32) : FVec Ideal S8192x11008 .bf16 :=
  truncf .bf16 (mulf (mulf (dense_up_product X W) (Host.divf (broadcastInDim S8192x11008 ![] bcast_S_S8192x11008 (constant S_ .f32 0x3F800000#32))
    (addf (broadcastInDim S8192x11008 ![] bcast_S_S8192x11008 (constant S_ .f32 0x3F800000#32)) (Host.exp (Host.negf (dense_up_product X W)))))) (dense_up_product X U)) bitsLt_bf16_f32

theorem dense_up_result_apply (X : FVec Ideal S8192x4096 .bf16) (W U : FVec Ideal S1x4096x11008 .f32) (r : Fin 8192) (n : Fin 11008) :
    dense_up_result X W U (ix2 r n) = gated (∑ k : Fin 4096, X (ix2 r k) * W (ix3 0 k n)) (∑ k : Fin 4096, X (ix2 r k) * U (ix3 0 k n)) := by
  rw [← dense_up_product_apply, ← dense_up_product_apply]
  pointwise [dense_up_result]
  rfl
end

/-- The kernel's array is the reference's. -/
theorem dense_up_arrays (X : FVec Ideal Cert.Reference2Ideal.S8192x4096 .bf16) (W U : FVec Ideal Cert.Reference2Ideal.S1x4096x11008 .f32) :
    dense_up_result X W U = Cert.Kernel2Ideal.Gen.result X W U := by
  funext y
  obtain ⟨r, n, rfl⟩ : ∃ (r : Fin 8192) (n : Fin 11008), y = ix2 r n := ⟨y 0, y 1, by funext k; fin_cases k <;> rfl⟩
  exact dense_up_result_apply X W U r n

attribute [local irreducible] Cert.Kernel2Ideal.Gen.V

/-- THE DENSE LAYER'S GATED PRODUCT: the kernel's result is the reference's. -/
theorem dense_up_value : Cert.algebraic_Kernel2Ideal_Reference2Ideal := by
  intro m ρ m' ρ' _ hagree
  have hO := Cert.Kernel2Ideal.Gen.tables_ok (F := Ideal) m
  refine ⟨fun c => Cert.Kernel2Ideal.Gen.result (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), ?_, ?_⟩
  · refine (θ_run Cert.Kernel2Ideal.defs _ _).mono (fun r hr c => ⟨(((hr.1 c).1 3).trans (Cert.Kernel2Ideal.Gen.array_eq m hO c)).trans ?_, hr.2 c⟩)
      (θ_run_and (Cert.Kernel2Ideal.Gen.run_main m ρ hO) (Cert.Kernel2Ideal.Gen.unchanged m ρ hO))
    rw [Cert.Kernel2Ideal.Gen.V_main_arg0, Cert.Kernel2Ideal.Gen.V_main_arg1, Cert.Kernel2Ideal.Gen.V_main_arg2]
  · refine (θ_run Cert.Reference2Ideal.defs _ _).mono (fun _ hr c => ⟨(hr c).1.trans ?_, (hr c).2⟩)
      (Cert.Reference2Ideal.Value.run (F := Ideal) m' ρ')
    rw [(hagree c).1, (hagree c).2.1, (hagree c).2.2]
    exact dense_up_arrays _ _ _

end Cert.Proof
end
-- ==== Proof.DenseDownBody.lean ====
/- The dense layer's last product: what one grid point leaves in the accumulator and in the result's block. -/
module

public import proofs.«01_k».proof.Proof.Gen.Kernel3Ideal.Value
public import Idealize.ShloMosaic.Lib.Pointwise
public import Idealize.ShloMosaic.Lib.ValueIdx
public import Idealize.ShloMosaic.Lib.Tactic

@[expose] public section

set_option maxRecDepth 16384

noncomputable section

namespace Cert.Kernel3Ideal.DenseDown

open Cert.Kernel3Ideal Cert.Kernel3Ideal.Gen Idealize.ShloMosaic Idealize.ShloMosaic.TcCoe

theorem zero2 : (![0, 0] : Fin 2 → ℕ) = fun _ => 0 := by
  funext a
  fin_cases a <;> rfl

theorem zero3 : (![0, 0, 0] : Fin 3 → ℕ) = fun _ => 0 := by
  funext a
  fin_cases a <;> rfl

/-- The first point of a run of eight leaves the first product in the accumulator … -/
theorem scratch_first (c : Dev nD) (i : grid0.Coords) (a3 : Memref sig .tc .vmem S2048x1536 .bf16) (h3 : a3.IsWhole) (a4 : Memref sig .tc .vmem S2048x256 .bf16) (h4 : a4.IsWhole) (a5 : Memref sig .tc .vmem S1x1536x1024 .f32) (h5 : a5.IsWhole)
    (a6 : Memref sig .tc .vmem S1x256x1024 .f32) (h6 : a6.IsWhole) (a7 : Memref sig .tc .vmem S2048x1024 .bf16) (h7 : a7.IsWhole) (a8 : Memref sig .tc .vmem S2048x1024 .f32) (h8 : a8.IsWhole) (hc0 : cond0_0 i) (hc1 : ¬cond0_1 i) (hc2 : ¬cond0_2 i)
    (x0 : Vec Ideal S2048x1536 .bf16) (x1 : Vec Ideal S2048x256 .bf16) (x2 : Vec Ideal S1x1536x1024 .f32) (x3 : Vec Ideal S1x256x1024 .f32) :
    sout0_A_0 c i a3 h3 a4 h4 a5 h5 a6 h6 a7 h7 a8 h8 hc0 hc1 hc2 x0 x1 x2 x3 = k0_pay1 x0 x2 := by
  unfold sout0_A_0
  rw [View.read_writes_eq_canon _ _ _ (scover0_A_0 c i a3 h3 a4 h4 a5 h5 a6 h6 a7 h7 a8 h8 hc0 hc1 hc2 x0 x1 x2 x3)]
  unfold kernelRun0_A
  dsimp only
  rw [View.canon_unit_zero zero2]
  simp only [View.readAt_eq_ld, h3.read_unread, h5.read_unread, View.ld_unit_zero (S := S2048x1536) zero2, View.ld_unit_zero (S := S1x1536x1024) zero3]

/-- … a later one adds its product … -/
theorem scratch_next (c : Dev nD) (i : grid0.Coords) (a3 : Memref sig .tc .vmem S2048x1536 .bf16) (h3 : a3.IsWhole) (a4 : Memref sig .tc .vmem S2048x256 .bf16) (h4 : a4.IsWhole) (a5 : Memref sig .tc .vmem S1x1536x1024 .f32) (h5 : a5.IsWhole)
    (a6 : Memref sig .tc .vmem S1x256x1024 .f32) (h6 : a6.IsWhole) (a7 : Memref sig .tc .vmem S2048x1024 .bf16) (h7 : a7.IsWhole) (a8 : Memref sig .tc .vmem S2048x1024 .f32) (h8 : a8.IsWhole) (hc0 : ¬cond0_0 i) (hc1 : cond0_1 i) (hc2 : ¬cond0_2 i)
    (x0 : Vec Ideal S2048x1536 .bf16) (x1 : Vec Ideal S2048x256 .bf16) (x2 : Vec Ideal S1x1536x1024 .f32) (x3 : Vec Ideal S1x256x1024 .f32) (acc : Vec Ideal S2048x1024 .f32) :
    sout0_B_0 c i a3 h3 a4 h4 a5 h5 a6 h6 a7 h7 a8 h8 hc0 hc1 hc2 x0 x1 x2 x3 acc = k0_pay2 acc x0 x2 := by
  unfold sout0_B_0
  rw [View.read_writes_eq_canon _ _ _ (scover0_B_0 c i a3 h3 a4 h4 a5 h5 a6 h6 a7 h7 a8 h8 hc0 hc1 hc2 x0 x1 x2 x3 acc)]
  unfold kernelRun0_B
  dsimp only
  rw [View.canon_unit_zero zero2]
  simp only [View.readAt_eq_ld, h3.read_unread, h5.read_unread, h8.read_unread, View.ld_unit_zero (S := S2048x1536) zero2, View.ld_unit_zero (S := S1x1536x1024) zero3, View.ld_unit_zero (S := S2048x1024) zero2]

/-- … and the last one writes the accumulator and the product of the remaining 256 columns. -/
theorem out_last (c : Dev nD) (i : grid0.Coords) (a3 : Memref sig .tc .vmem S2048x1536 .bf16) (h3 : a3.IsWhole) (a4 : Memref sig .tc .vmem S2048x256 .bf16) (h4 : a4.IsWhole) (a5 : Memref sig .tc .vmem S1x1536x1024 .f32) (h5 : a5.IsWhole)
    (a6 : Memref sig .tc .vmem S1x256x1024 .f32) (h6 : a6.IsWhole) (a7 : Memref sig .tc .vmem S2048x1024 .bf16) (h7 : a7.IsWhole) (a8 : Memref sig .tc .vmem S2048x1024 .f32) (h8 : a8.IsWhole) (hc0 : ¬cond0_0 i) (hc1 : ¬cond0_1 i) (hc2 : cond0_2 i)
    (x0 : Vec Ideal S2048x1536 .bf16) (x1 : Vec Ideal S2048x256 .bf16) (x2 : Vec Ideal S1x1536x1024 .f32) (x3 : Vec Ideal S1x256x1024 .f32) (acc : Vec Ideal S2048x1024 .f32) :
    out0_C_4 c i a3 h3 a4 h4 a5 h5 a6 h6 a7 h7 a8 h8 hc0 hc1 hc2 x0 x1 x2 x3 acc = k0_pay3 acc x1 x3 := by
  unfold out0_C_4
  rw [View.read_writes_eq_canon _ _ _ (cover0_C_4 c i a3 h3 a4 h4 a5 h5 a6 h6 a7 h7 a8 h8 hc0 hc1 hc2 x0 x1 x2 x3 acc)]
  unfold kernelRun0_C
  dsimp only
  rw [View.canon_unit_zero zero2]
  simp only [View.readAt_eq_ld, h4.read_unread, h6.read_unread, h8.read_unread, View.ld_unit_zero (S := S2048x256) zero2, View.ld_unit_zero (S := S1x256x1024) zero3, View.ld_unit_zero (S := S2048x1024) zero2]

/-! ## The three payloads at an index -/

theorem pay1_apply (x : Vec Ideal S2048x1536 .bf16) (w : Vec Ideal S1x1536x1024 .f32) (r : Fin 2048) (n : Fin 1024) :
    k0_pay1 x w (ix2 r n) = ∑ j : Fin 1536, x (ix2 r j) * w (ix3 0 j n) := by
  pointwise [k0_pay1]

theorem pay2_apply (acc : Vec Ideal S2048x1024 .f32) (x : Vec Ideal S2048x1536 .bf16) (w : Vec Ideal S1x1536x1024 .f32) (r : Fin 2048) (n : Fin 1024) :
    k0_pay2 acc x w (ix2 r n) = acc (ix2 r n) + ∑ j : Fin 1536, x (ix2 r j) * w (ix3 0 j n) := by
  pointwise [k0_pay2]

theorem pay3_apply (acc : Vec Ideal S2048x1024 .f32) (x : Vec Ideal S2048x256 .bf16) (w : Vec Ideal S1x256x1024 .f32) (r : Fin 2048) (n : Fin 1024) :
    k0_pay3 acc x w (ix2 r n) = acc (ix2 r n) + ∑ j : Fin 256, x (ix2 r j) * w (ix3 0 j n) := by
  pointwise [k0_pay3]

end Cert.Kernel3Ideal.DenseDown

end
-- ==== Proof.DenseDownArray.lean ====
/- The dense layer's last product: the blocks that a grid point reads as entries of the arguments, what the accumulator
   holds after each point, and the result array. -/
module

public import proofs.«01_k».proof.Proof.DenseDownBody
public import Idealize.ShloMosaic.Lib.Claim
public import Idealize.ShloMosaic.Lib.Pipeline.ValueKit.Geometry

@[expose] public section

set_option maxRecDepth 16384

noncomputable section

namespace Cert.Kernel3Ideal.DenseDown

open Cert.Kernel3Ideal Cert.Kernel3Ideal.Gen Cert.Kernel3Ideal.Value Idealize.ShloMosaic Idealize.ShloMosaic.TcCoe

variable (m : (ℓ : Loc nD τ sig) → Buf (Elt Ideal) ℓ) (c : Dev nD)

/-- The two arguments. -/
abbrev hidden : Vec Ideal S8192x11008 .bf16 := m ((c : Thread nD τ).loc main_arg0)
abbrev weights : Vec Ideal S1x11008x4096 .f32 := m ((c : Thread nD τ).loc main_arg1)

/-- The blocks of a point: 1536 hidden columns and their weights, and the remaining 256 of both. -/
abbrev hiddenBlock (t : Fin cfg0.N) : Vec Ideal S2048x1536 .bf16 := X0_0 m c t
abbrev weightBlock (t : Fin cfg0.N) : Vec Ideal S1x1536x1024 .f32 := X0_2 m c t
abbrev hiddenRest (t : Fin cfg0.N) : Vec Ideal S2048x256 .bf16 := iblk m c 1 t
abbrev weightRest (t : Fin cfg0.N) : Vec Ideal S1x256x1024 .f32 := iblk m c 3 t

/-! ## The blocks at a point: row block `t / 32`, column block `t / 8 % 4`, step `t % 8` -/

theorem index0 : ∀ t : Fin grid0.N, win0_0.index t (0 : Fin 2) = t.val / 32 ∧ win0_0.index t (1 : Fin 2) = min (t.val % 8) 6 := by decide +kernel
theorem index1 : ∀ t : Fin grid0.N, win0_1.index t (0 : Fin 2) = t.val / 32 ∧ win0_1.index t (1 : Fin 2) = 42 := by decide +kernel
theorem index2 : ∀ t : Fin grid0.N, win0_2.index t (0 : Fin 3) = 0 ∧ win0_2.index t (1 : Fin 3) = min (t.val % 8) 6 ∧ win0_2.index t (2 : Fin 3) = t.val / 8 % 4 := by decide +kernel
theorem index3 : ∀ t : Fin grid0.N, win0_3.index t (0 : Fin 3) = 0 ∧ win0_3.index t (1 : Fin 3) = 42 ∧ win0_3.index t (2 : Fin 3) = t.val / 8 % 4 := by decide +kernel

/-- The row and the column of the arrays at which a block's row and column lie. -/
abbrev rowAt (t : Fin cfg0.N) (r : Fin 2048) : Fin 8192 := ⟨2048 * (t.val / 32) + r.val, by have := lt_of_lt_of_eq t.isLt (show cfg0.N = 128 from N_0); omega⟩
abbrev colAt (t : Fin cfg0.N) (n : Fin 1024) : Fin 4096 := ⟨1024 * (t.val / 8 % 4) + n.val, by omega⟩

theorem hidden_block (t : Fin cfg0.N) (r : Fin 2048) (j : Fin 1536) :
    hiddenBlock m c t (ix2 r j) = hidden m c (ix2 (rowAt t r) ⟨1536 * min (t.val % 8) 6 + j.val, by omega⟩) := by
  unfold hiddenBlock X0_0 Pipeline.Window.fill
  rw [dif_pos (moved0_0 t _)]
  unfold iblk
  refine Eq.trans ?_ (congrFun (V_main_arg0 m c) _)
  refine congrArg (V m c main_arg0) ?_
  obtain ⟨e0, e1⟩ := index0 t
  funext a
  apply Fin.ext
  match a with
  | ⟨0, _⟩ => show win0_0.index t (0 : Fin 2) * 2048 + 1 * r.val = 2048 * (t.val / 32) + r.val; omega
  | ⟨1, _⟩ => show win0_0.index t (1 : Fin 2) * 1536 + 1 * j.val = 1536 * min (t.val % 8) 6 + j.val; omega

theorem hidden_rest (t : Fin cfg0.N) (r : Fin 2048) (j : Fin 256) :
    hiddenRest m c t (ix2 r j) = hidden m c (ix2 (rowAt t r) ⟨10752 + j.val, by omega⟩) := by
  unfold hiddenRest iblk
  refine Eq.trans ?_ (congrFun (V_main_arg0 m c) _)
  refine congrArg (V m c main_arg0) ?_
  obtain ⟨e0, e1⟩ := index1 t
  funext a
  apply Fin.ext
  match a with
  | ⟨0, _⟩ => show win0_1.index t (0 : Fin 2) * 2048 + 1 * r.val = 2048 * (t.val / 32) + r.val; omega
  | ⟨1, _⟩ => show win0_1.index t (1 : Fin 2) * 256 + 1 * j.val = 10752 + j.val; omega

theorem weight_block (t : Fin cfg0.N) (j : Fin 1536) (n : Fin 1024) :
    weightBlock m c t (ix3 0 j n) = weights m c (ix3 0 ⟨1536 * min (t.val % 8) 6 + j.val, by omega⟩ (colAt t n)) := by
  unfold weightBlock X0_2 Pipeline.Window.fill
  rw [dif_pos (moved0_2 t _)]
  unfold iblk
  refine Eq.trans ?_ (congrFun (V_main_arg1 m c) _)
  refine congrArg (V m c main_arg1) ?_
  obtain ⟨e0, e1, e2⟩ := index2 t
  funext a
  apply Fin.ext
  match a with
  | ⟨0, _⟩ => show win0_2.index t (0 : Fin 3) * 1 + 1 * 0 = 0; omega
  | ⟨1, _⟩ => show win0_2.index t (1 : Fin 3) * 1536 + 1 * j.val = 1536 * min (t.val % 8) 6 + j.val; omega
  | ⟨2, _⟩ => show win0_2.index t (2 : Fin 3) * 1024 + 1 * n.val = 1024 * (t.val / 8 % 4) + n.val; omega

theorem weight_rest (t : Fin cfg0.N) (j : Fin 256) (n : Fin 1024) :
    weightRest m c t (ix3 0 j n) = weights m c (ix3 0 ⟨10752 + j.val, by omega⟩ (colAt t n)) := by
  unfold weightRest iblk
  refine Eq.trans ?_ (congrFun (V_main_arg1 m c) _)
  refine congrArg (V m c main_arg1) ?_
  obtain ⟨e0, e1, e2⟩ := index3 t
  funext a
  apply Fin.ext
  match a with
  | ⟨0, _⟩ => show win0_3.index t (0 : Fin 3) * 1 + 1 * 0 = 0; omega
  | ⟨1, _⟩ => show win0_3.index t (1 : Fin 3) * 256 + 1 * j.val = 10752 + j.val; omega
  | ⟨2, _⟩ => show win0_3.index t (2 : Fin 3) * 1024 + 1 * n.val = 1024 * (t.val / 8 % 4) + n.val; omega

/-! ## The accumulator -/

/-- One product of the sum over the hidden columns, zero past the last of them. -/
def term (r : Fin 8192) (n : Fin 4096) (j : ℕ) : EReal :=
  if h : j < 11008 then hidden m c (ix2 r ⟨j, h⟩) * weights m c (ix3 0 ⟨j, h⟩ n) else 0

theorem block_sum (t : Fin cfg0.N) (k : ℕ) (hk : t.val % 8 = k) (h6 : k ≤ 6) (r : Fin 2048) (n : Fin 1024) :
    ∑ j : Fin 1536, (hiddenBlock m c t (ix2 r j) * weightBlock m c t (ix3 0 j n))
      = ∑ j ∈ Finset.range 1536, term m c (rowAt t r) (colAt t n) (1536 * k + j) := by
  rw [Finset.sum_range]
  refine Finset.sum_congr rfl fun j _ => ?_
  rw [hidden_block, weight_block]
  unfold term
  rw [dif_pos (by omega)]
  have e : (⟨1536 * min (t.val % 8) 6 + j.val, by omega⟩ : Fin 11008) = ⟨1536 * k + j.val, by omega⟩ := Fin.ext (by show 1536 * min (t.val % 8) 6 + j.val = 1536 * k + j.val; omega)
  rw [e]

/-- After step `k ≤ 6` of a run the accumulator holds the products of the first `1536 (k + 1)` hidden columns. -/
theorem scratch_eq (k : ℕ) (h6 : k ≤ 6) : ∀ (t : Fin cfg0.N), t.val % 8 = k → ∀ (r : Fin 2048) (n : Fin 1024),
    (outsAt0 m c t.val t.isLt).2 (ix2 r n) = ∑ j ∈ Finset.range (1536 * (k + 1)), term m c (rowAt t r) (colAt t n) j := by
  induction k with
  | zero =>
    intro t ht r n
    rw [outsAt0_A m c t ht (by omega) (by omega)]
    dsimp only
    rw [scratch_first, pay1_apply, block_sum m c t 0 ht h6]
    simp only [Nat.mul_zero, Nat.zero_add, Nat.mul_one]
  | succ k ih =>
    intro t ht r n
    rw [outsAt0_B m c t (by omega) (by omega) (by omega)]
    dsimp only
    rw [scratch_next, pay2_apply, block_sum m c t (k + 1) ht h6]
    have e := ih (by omega) ⟨t.val - 1, Nat.lt_of_le_of_lt (Nat.sub_le _ _) t.isLt⟩ (by show (t.val - 1) % 8 = k; omega) r n
    have er : rowAt ⟨t.val - 1, Nat.lt_of_le_of_lt (Nat.sub_le _ _) t.isLt⟩ r = rowAt t r := Fin.ext (by show 2048 * ((t.val - 1) / 32) + r.val = 2048 * (t.val / 32) + r.val; omega)
    have en : colAt ⟨t.val - 1, Nat.lt_of_le_of_lt (Nat.sub_le _ _) t.isLt⟩ n = colAt t n := Fin.ext (by show 1024 * ((t.val - 1) / 8 % 4) + n.val = 1024 * (t.val / 8 % 4) + n.val; omega)
    rw [er, en] at e
    refine (congrArg (fun x : EReal => x + _) e).trans ?_
    rw [show 1536 * (k + 1 + 1) = 1536 * (k + 1) + 1536 by ring, Finset.sum_range_add]

/-- The last point of a run writes the whole sum. -/
theorem block_eq (t : Fin cfg0.N) (ht : t.val % 8 = 7) (r : Fin 2048) (n : Fin 1024) :
    (outsAt0 m c t.val t.isLt).1 (ix2 r n) = ∑ j : Fin 11008, hidden m c (ix2 (rowAt t r) j) * weights m c (ix3 0 j (colAt t n)) := by
  rw [outsAt0_C m c t (by omega) (by omega) ht]
  dsimp only
  rw [out_last, pay3_apply]
  have e := scratch_eq m c 6 le_rfl ⟨t.val - 1, Nat.lt_of_le_of_lt (Nat.sub_le _ _) t.isLt⟩ (by show (t.val - 1) % 8 = 6; omega) r n
  have er : rowAt ⟨t.val - 1, Nat.lt_of_le_of_lt (Nat.sub_le _ _) t.isLt⟩ r = rowAt t r := Fin.ext (by show 2048 * ((t.val - 1) / 32) + r.val = 2048 * (t.val / 32) + r.val; omega)
  have en : colAt ⟨t.val - 1, Nat.lt_of_le_of_lt (Nat.sub_le _ _) t.isLt⟩ n = colAt t n := Fin.ext (by show 1024 * ((t.val - 1) / 8 % 4) + n.val = 1024 * (t.val / 8 % 4) + n.val; omega)
  rw [er, en] at e
  have e' : ∑ j : Fin 256, (hiddenRest m c t (ix2 r j) * weightRest m c t (ix3 0 j n))
      = ∑ j ∈ Finset.range 256, term m c (rowAt t r) (colAt t n) (1536 * (6 + 1) + j) := by
    rw [Finset.sum_range]
    refine Finset.sum_congr rfl fun j _ => ?_
    rw [hidden_rest, weight_rest]
    unfold term
    rw [dif_pos (by omega)]
  refine (congrArg₂ (fun x y : EReal => x + y) e e').trans ?_
  rw [← Finset.sum_range_add, Finset.sum_range]
  refine Finset.sum_congr rfl fun j _ => ?_
  unfold term
  rw [dif_pos j.isLt]

/-- THE RESULT ARRAY. -/
theorem array_apply (r : Fin 8192) (n : Fin 4096) :
    (G4 m c : Vec Ideal S8192x4096 .bf16) (ix2 r n) = ∑ j : Fin 11008, hidden m c (ix2 r j) * weights m c (ix3 0 j n) := by
  have hp : pt4Of (ix2 r n) = 8 * (4 * (r.val / 2048) + n.val / 1024) + 7 := by
    show 8 * (4 * (r.val / 2048 - 0) + 1 * (n.val / 1024 - 0)) + 7 = _
    omega
  have hN : pt4Of (ix2 r n) < cfg0.N := lt_of_lt_of_eq (by omega) (show 128 = cfg0.N from N_0.symm)
  unfold G4
  rw [dif_pos hN, ← outsAt0_sweep]
  have hl : loc4Of (ix2 r n) = ix2 (⟨r.val % 2048, by omega⟩ : Fin 2048) (⟨n.val % 1024, by omega⟩ : Fin 1024) := by
    funext a
    apply Fin.ext
    match a with
    | ⟨0, _⟩ => rfl
    | ⟨1, _⟩ => rfl
  rw [hl]
  refine (block_eq m c ⟨pt4Of (ix2 r n), hN⟩ (by show pt4Of (ix2 r n) % 8 = 7; omega) _ _).trans ?_
  have er : rowAt ⟨pt4Of (ix2 r n), hN⟩ ⟨r.val % 2048, by omega⟩ = r := Fin.ext (by show 2048 * (pt4Of (ix2 r n) / 32) + r.val % 2048 = r.val; omega)
  have en : colAt ⟨pt4Of (ix2 r n), hN⟩ ⟨n.val % 1024, by omega⟩ = n := Fin.ext (by show 1024 * (pt4Of (ix2 r n) / 8 % 4) + n.val % 1024 = n.val; omega)
  rw [er, en]

end Cert.Kernel3Ideal.DenseDown

end
-- ==== Proof.DenseDownClaim.lean ====
/- The claims about the dense layer's last product: both programs run and leave their arguments, and the result is the
   reference's. -/
module

public import proofs.«01_k».proof.Proof.DenseDownArray
public import proofs.«01_k».proof.Proof.Gen.Kernel3
public import proofs.«01_k».proof.Proof.Gen.Reference3Ideal.Run
public import proofs.«01_k».proof.Defs
public import Idealize.ShloMosaic.Lib.Quiescent

@[expose] public section

set_option maxRecDepth 16384

noncomputable section

namespace Cert.Proof

open Idealize.ShloMosaic Idealize.ShloMosaic.TcCoe Idealize.SL.Sem

/-- The two programs have the same body table: their texts are the same. -/
theorem dense_down_bodies_same : Cert.Kernel3.defs₀ (F := Bits) = Cert.Kernel3Ideal.defs₀ (F := Bits) :=
  congrArg Defs.onTc (funext fun l => funext fun a => match l, a with
    | 0, (_, _) => rfl
    | ⟨_ + 1, h⟩, _ => absurd h (Nat.not_lt.2 (Nat.le_add_left _ _)))

theorem dense_down_defs_same : Cert.Kernel3.defs (F := Bits) = Cert.Kernel3Ideal.defs (F := Bits) :=
  congrArg (Pipeline.defs (Cert.Kernel3Ideal.pcfgs (F := Bits))) dense_down_bodies_same

set_option maxHeartbeats 1000000 in
/-- … and so are the programs around the launch. -/
theorem dense_down_mains_same : Cert.Kernel3.main (F := Bits) = Cert.Kernel3Ideal.main (F := Bits) := by
  unfold Cert.Kernel3.main Cert.Kernel3Ideal.main
  rfl

/-- The dense layer's last product runs, leaves its arguments as they were and ends at rest, over machine floats … -/
theorem dense_down_frame : Cert.quiescent_Kernel3 := fun m ρ _ => by
  rw [dense_down_defs_same, dense_down_mains_same]
  exact Cert.Kernel3Ideal.Gen.frame (F := Bits) m ρ

/-- … over the reals … -/
theorem dense_down_frame_ideal : Cert.quiescent_Kernel3Ideal := fun m ρ _ => Cert.Kernel3Ideal.Gen.frame m ρ

/-- … and so does the reference. -/
theorem dense_down_frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

open Cert.Reference3Ideal Cert.Reference3Ideal.Gen Cert.Reference3Ideal.Facts in
/-- What the reference computes. -/
def dense_down_result (X : FVec Ideal Cert.Reference3Ideal.S8192x11008 .bf16) (W : FVec Ideal Cert.Reference3Ideal.S1x11008x4096 .f32) : FVec Ideal Cert.Reference3Ideal.S8192x4096 .bf16 :=
  truncf .bf16 (Host.dotGeneral dot_S8192x11008_S11008x4096_S8192x4096_1_0_0_1_n_n none (extf .f32 X bitsLt_bf16_f32) (shapeCast _ W shapeCasts_S1x11008x4096_S11008x4096)) bitsLt_bf16_f32

theorem dense_down_result_apply (X : FVec Ideal Cert.Reference3Ideal.S8192x11008 .bf16) (W : FVec Ideal Cert.Reference3Ideal.S1x11008x4096 .f32) (r : Fin 8192) (n : Fin 4096) :
    dense_down_result X W (ix2 r n) = ∑ j : Fin 11008, X (ix2 r j) * W (ix3 0 j n) := by
  pointwise [dense_down_result]

/-- THE DENSE LAYER'S LAST PRODUCT: the kernel's result is the reference's. -/
theorem dense_down_value : Cert.algebraic_Kernel3Ideal_Reference3Ideal := by
  intro m ρ m' ρ' _ hagree
  refine ⟨fun c => dense_down_result (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · refine (θ_run Cert.Kernel3Ideal.defs _ _).mono (fun r hr c => ⟨(hr c).1.trans ?_, (hr c).2⟩) (Cert.Kernel3Ideal.Value.run (F := Ideal) m ρ)
    funext y
    obtain ⟨a, b, rfl⟩ : ∃ (a : Fin 8192) (b : Fin 4096), y = ix2 a b := ⟨y 0, y 1, by funext k; fin_cases k <;> rfl⟩
    exact (Cert.Kernel3Ideal.DenseDown.array_apply m c a b).trans (dense_down_result_apply _ _ a b).symm
  · refine (θ_run Cert.Reference3Ideal.defs _ _).mono (fun _ hr c => ⟨(hr c).1.trans ?_, (hr c).2⟩)
      (Cert.Reference3Ideal.Value.run (F := Ideal) m' ρ')
    rw [(hagree c).1, (hagree c).2]
    rfl

end Cert.Proof
end
-- ==== Proof.lean ====
/- The assembly: the attention's claims, and the claims of the feed-forward calls, whose modules prove them. -/
module

public import proofs.«01_k».proof.Proof.Gen.KernelIdeal.Value
public import proofs.«01_k».proof.Proof.Gen.ReferenceIdeal.Run
public import proofs.«01_k».proof.Defs
public import proofs.«01_k».proof.Proof.Equation
public import proofs.«01_k».proof.Proof.Finite
public import Idealize.ShloMosaic.Lib.Quiescent
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.Kernel5Ideal.Launch
public import proofs.«01_k».proof.Proof.Gen.Kernel4Ideal.Launch
public import proofs.«01_k».proof.Proof.Gen.Pre_plan4
public import proofs.«01_k».proof.Proof.Gen.Pre_plan5
public import proofs.«01_k».proof.Proof.UpClaim
public import proofs.«01_k».proof.Proof.DownClaim
public import proofs.«01_k».proof.Proof.DenseUpClaim
public import proofs.«01_k».proof.Proof.Gen.Kernel2
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.DenseDownClaim
public import proofs.«01_k».proof.Proof.Gen.Kernel3
public import proofs.«01_k».proof.Proof.Gen.Kernel3Ideal.Value
public import proofs.«01_k».proof.Proof.Gen.Reference3Ideal
public import proofs.«01_k».proof.Proof.Gen.Reference3Ideal.Run
public import Idealize.ShloMosaic.Adequacy
public import Idealize.ShloMosaic.Init
public import proofs.«01_k».proof.Proof.Gen.Kernel4
public import proofs.«01_k».proof.Proof.Gen.Kernel4Ideal.Skeleton
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal.Skeleton
public import proofs.«01_k».proof.Proof.Gen.Reference5Ideal
public import proofs.«01_k».proof.Proof.Gen.Reference5Ideal.Run

@[expose] public section

noncomputable section

namespace Cert.Proof

open Idealize.ShloMosaic Idealize.ShloMosaic.TcCoe Idealize.SL.Sem

/-- The attention kernel runs and leaves its arguments, at its words and over the extended reals. -/
theorem attention_frame : Cert.quiescent_Kernel := fun m ρ _ => Cert.Kernel.Gen.frame m ρ
theorem attention_frame_ideal : Cert.quiescent_KernelIdeal := fun m ρ _ => Cert.KernelIdeal.Gen.frame m ρ

/-- … and so does the reference. -/
theorem attention_frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one constant that the idealization names: the kernel's −10³⁰ stands for `⊥`. -/
theorem attention_preserves : Cert.preserves_Kernel_KernelIdeal :=
  IdealRules.named_const.statement Cert.KernelIdeal.κ "mask" .f32 0xF149F2CA#32 ⊥ rfl

/-- ATTENTION: at real queries and keys the kernel's result is the reference's. -/
theorem attention_value : Cert.algebraic_KernelIdeal_ReferenceIdeal_pre_finite_scores := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨⟨fq, hq⟩, fk, hk⟩ := Cert.Pre_finite_scores.real_args _ _ _ (hpre c)
  rw [Cert.ReferenceIdeal.Attention.res_eq, (hagree c).1, (hagree c).2.1, (hagree c).2.2]
  exact (Cert.KernelIdeal.Attention.array_eq m c fq fk hq hk).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite_scores.Gen.facts, Cert.Pre_plan4.Gen.facts, Cert.Pre_plan5.Gen.facts,
  attention_frame, attention_frame_ideal, fun m ρ _ => attention_frame_ideal m ρ trivial, attention_frame_reference,
  fun m ρ _ => attention_frame_reference m ρ trivial,
  dense_up_frame, dense_up_frame_ideal, dense_up_frame_reference,
  dense_down_frame, dense_down_frame_ideal, dense_down_frame_reference,
  up_frame, up_frame_ideal, up_frame_reference, fun m ρ _ => up_frame_reference m ρ trivial,
  down_frame, down_frame_ideal, down_frame_reference, fun m ρ _ => down_frame_reference m ρ trivial,
  attention_preserves, attention_value, trivial, dense_up_value, trivial, dense_down_value, trivial, up_value, trivial, down_value⟩

end Cert.Proof

end
